-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_distinct [hPre_finite_distinct : Cert.Pre_finite_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_finite_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_distinct [hPre_finite_distinct : Cert.Pre_finite_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_distinct [hKernelIdeal : Cert.KernelIdeal.Facts] [hPre_finite_distinct : Cert.Pre_finite_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_distinct m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_distinct [hReferenceIdeal : Cert.ReferenceIdeal.Facts] [hPre_finite_distinct : Cert.Pre_finite_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_distinct [hKernelIdeal : Cert.KernelIdeal.Facts] [hReferenceIdeal : Cert.ReferenceIdeal.Facts] [hPre_finite_distinct : Cert.Pre_finite_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_distinct m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_distinct : Cert.Pre_finite_distinct.Facts),
    quiescent_Kernel (hKernel := hKernel)
    ∧ quiescent_KernelIdeal (hKernelIdeal := hKernelIdeal)
    ∧ quiescent_KernelIdeal_pre_finite_distinct (hKernelIdeal := hKernelIdeal) (hPre_finite_distinct := hPre_finite_distinct)
    ∧ quiescent_ReferenceIdeal (hReferenceIdeal := hReferenceIdeal)
    ∧ quiescent_ReferenceIdeal_pre_finite_distinct (hReferenceIdeal := hReferenceIdeal) (hPre_finite_distinct := hPre_finite_distinct)
    ∧ preserves_Kernel_KernelIdeal
    ∧ algebraic_KernelIdeal_ReferenceIdeal_pre_finite_distinct (hKernelIdeal := hKernelIdeal) (hReferenceIdeal := hReferenceIdeal) (hPre_finite_distinct := hPre_finite_distinct)
-- ==== Pre_finite_distinct.lean ====
abbrev S2048x4x4 : Shape := ⟨3, ![2048, 4, 4]⟩
abbrev S2048x4x3 : Shape := ⟨3, ![2048, 4, 3]⟩
abbrev S256x28 : Shape := ⟨2, ![256, 28]⟩
abbrev S16x2 : Shape := ⟨2, ![16, 2]⟩
abbrev S8x2 : Shape := ⟨2, ![8, 2]⟩
abbrev S32x16 : Shape := ⟨2, ![32, 16]⟩
abbrev S2250x16 : Shape := ⟨2, ![2250, 16]⟩
abbrev S3x128 : Shape := ⟨2, ![3, 128]⟩
abbrev S384x256 : Shape := ⟨2, ![384, 256]⟩
abbrev S256 : Shape := ⟨1, ![256]⟩
abbrev S256x256 : Shape := ⟨2, ![256, 256]⟩
abbrev S_ : Shape := ⟨0, ![]⟩
abbrev S4x3 : Shape := ⟨2, ![4, 3]⟩
abbrev S1x4x3 : Shape := ⟨3, ![1, 4, 3]⟩
abbrev S2048x4x128 : Shape := ⟨3, ![2048, 4, 128]⟩
abbrev S4x2048x128 : Shape := ⟨3, ![4, 2048, 128]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S4x2048x17 : Shape := ⟨3, ![4, 2048, 17]⟩
abbrev S4x2048x16 : Shape := ⟨3, ![4, 2048, 16]⟩

class Facts : Prop where
  bcast_S_S2048x4x4 : S_.BroadcastsInDim S2048x4x4 (![] : Fin 0 → Fin S2048x4x4.rank)
  reducesTo_S2048x4x4_S_d0_1_2 : S2048x4x4.ReducesTo [0, 1, 2] S_
  h_S_ : 0 < S_.numel
  bcast_S_S256x28 : S_.BroadcastsInDim S256x28 (![] : Fin 0 → Fin S256x28.rank)
  reducesTo_S256x28_S_d0_1 : S256x28.ReducesTo [0, 1] S_
  bcast_S_S16x2 : S_.BroadcastsInDim S16x2 (![] : Fin 0 → Fin S16x2.rank)
  reducesTo_S16x2_S_d0_1 : S16x2.ReducesTo [0, 1] S_
  bcast_S_S8x2 : S_.BroadcastsInDim S8x2 (![] : Fin 0 → Fin S8x2.rank)
  reducesTo_S8x2_S_d0_1 : S8x2.ReducesTo [0, 1] S_
  bcast_S_S32x16 : S_.BroadcastsInDim S32x16 (![] : Fin 0 → Fin S32x16.rank)
  reducesTo_S32x16_S_d0_1 : S32x16.ReducesTo [0, 1] S_
  bcast_S_S2250x16 : S_.BroadcastsInDim S2250x16 (![] : Fin 0 → Fin S2250x16.rank)
  reducesTo_S2250x16_S_d0_1 : S2250x16.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  reducesTo_S2048x4x3_S4x3_d0 : S2048x4x3.ReducesTo [0] S4x3
  bcast_S4x3_S1x4x3_1_2 : S4x3.BroadcastsInDim S1x4x3 (![1, 2] : Fin 2 → Fin S1x4x3.rank)
  bcast_S1x4x3_S2048x4x3_0_1_2 : S1x4x3.BroadcastsInDim S2048x4x3 (![0, 1, 2] : Fin 3 → Fin S2048x4x3.rank)
  bcast_S_S1x4x3 : S_.BroadcastsInDim S1x4x3 (![] : Fin 0 → Fin S1x4x3.rank)
  transposes_S2048x4x128_S4x2048x128_1_0_2 : S2048x4x128.Transposes [1, 0, 2] S4x2048x128
  reducesTo_S4x2048x128_S4x2048_d2 : S4x2048x128.ReducesTo [2] S4x2048
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  sliceFits_S4x2048x2048_S4x2048x17 : S4x2048x2048.Slices (fun _ => 0) S4x2048x17
  slices_S4x2048x17_S4x2048x16_0_0_0 : S4x2048x17.Slices ![0, 0, 0] S4x2048x16
  slices_S4x2048x17_S4x2048x16_0_0_1 : S4x2048x17.Slices ![0, 0, 1] S4x2048x16
  reducesTo_S4x2048x16_S_d0_1_2 : S4x2048x16.ReducesTo [0, 1, 2] S_
  dot_S2048x4x3_S3x128_S2048x4x128_2_0_01_1_n_n_wf : DotDims.WF S2048x4x3 S3x128 S2048x4x128 [2] [0] [0, 1] [1] [] []
  dot_S4x2048x128_S4x2048x128_S4x2048x2048_2_2_1_1_0_0_wf : DotDims.WF S4x2048x128 S4x2048x128 S4x2048x2048 [2] [2] [1] [1] [0] [0]

variable [Facts]

def dot_S2048x4x3_S3x128_S2048x4x128_2_0_01_1_n_n : DotDims S2048x4x3 S3x128 S2048x4x128 where
  lhsContracting := [2]
  rhsContracting := [0]
  lhsNonContracting := [0, 1]
  rhsNonContracting := [1]
  lhsBatch := []
  rhsBatch := []
  wf := dot_S2048x4x3_S3x128_S2048x4x128_2_0_01_1_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def fn_part6 {F : FTy → Type} [FloatOps F] (main_v78 : IVec S_ 1) (main_values : FVec F S4x2048x17 .f32) : IVec S_ 1 :=
  let main_v104 : FVec F S4x2048x16 .f32 := (extractStridedSlice S4x2048x16 ![0, 0, 0] · slices_S4x2048x17_S4x2048x16_0_0_0) main_values
  let main_v105 : FVec F S4x2048x16 .f32 := (extractStridedSlice S4x2048x16 ![0, 0, 1] · slices_S4x2048x17_S4x2048x16_0_0_1) main_values
  let main_v106 : IVec S4x2048x16 1 := cmpf .ogt main_v104 main_v105
  let main_c_36 : IVec S_ 1 := constantI S_ 1 1#1
  let main_v107 : IVec S_ 1 := (fun x v => Host.reduce IntOp.andi x v reducesTo_S4x2048x16_S_d0_1_2 h_S_) main_v106 main_c_36
  let main_v108 : IVec S_ 1 := andi main_v78 main_v107
  main_v108

def fn_part5 {F : FTy → Type} [FloatOps F] (main_arg11 : FVec F S3x128 .f32) (main_v78 : IVec S_ 1) (main_v80 : FVec F S1x4x3 .f32) (main_v82 : FVec F S1x4x3 .f32) (main_v84 : FVec F S2048x4x3 .f32) : IVec S_ 1 :=
  let main_v85 : FVec F S1x4x3 .f32 := subf main_v82 main_v80
  let main_cst_33 : FVec F S_ .f32 := constant S_ .f32 0x33D6BF95#32
  let main_v86 : FVec F S1x4x3 .f32 := broadcastInDim S1x4x3 ![] bcast_S_S1x4x3 main_cst_33
  let main_v87 : FVec F S1x4x3 .f32 := addf main_v85 main_v86
  let main_v88 : FVec F S2048x4x3 .f32 := broadcastInDim S2048x4x3 ![0, 1, 2] bcast_S1x4x3_S2048x4x3_0_1_2 main_v87
  let main_v89 : FVec F S2048x4x3 .f32 := Host.divf main_v84 main_v88
  let main_v90 : FVec F S2048x4x128 .f32 := (fun l r => Host.dotGeneral dot_S2048x4x3_S3x128_S2048x4x128_2_0_01_1_n_n none l r) main_v89 main_arg11
  let main_v91 : FVec F S4x2048x128 .f32 := (transpose S4x2048x128 [1, 0, 2] · transposes_S2048x4x128_S4x2048x128_1_0_2) main_v90
  let main_v92 : FVec F S4x2048x128 .f32 := mulf main_v91 main_v91
  let main_cst_34 : FVec F S_ .f32 := constant S_ .f32 0x00000000#32
  let main_v93 : FVec F S4x2048 .f32 := (fun x v => Host.reduceAdd x v reducesTo_S4x2048x128_S4x2048_d2 h_S_) main_v92 main_cst_34
  let main_v94 : FVec F S4x2048x1 .f32 := broadcastInDim S4x2048x1 ![0, 1] bcast_S4x2048_S4x2048x1_0_1 main_v93
  let main_v95 : FVec F S4x1x2048 .f32 := broadcastInDim S4x1x2048 ![0, 2] bcast_S4x2048_S4x1x2048_0_2 main_v93
  let main_v96 : FVec F S4x2048x2048 .f32 := broadcastInDim S4x2048x2048 ![0, 1, 2] bcast_S4x2048x1_S4x2048x2048_0_1_2 main_v94
  let main_v97 : FVec F S4x2048x2048 .f32 := broadcastInDim S4x2048x2048 ![0, 1, 2] bcast_S4x1x2048_S4x2048x2048_0_1_2 main_v95
  let main_v98 : FVec F S4x2048x2048 .f32 := addf main_v96 main_v97
  let main_v99 : FVec F S4x2048x2048 .f32 := (fun l r => Host.dotGeneral dot_S4x2048x128_S4x2048x128_S4x2048x2048_2_2_1_1_0_0 none l r) main_v91 main_v91
  let main_cst_35 : FVec F S_ .f32 := constant S_ .f32 0x40000000#32
  let main_v100 : FVec F S4x2048x2048 .f32 := broadcastInDim S4x2048x2048 ![] bcast_S_S4x2048x2048 main_cst_35
  let main_v101 : FVec F S4x2048x2048 .f32 := mulf main_v100 main_v99
  let main_v102 : FVec F S4x2048x2048 .f32 := subf main_v98 main_v101
  let main_v103 : FVec F S4x2048x2048 .f32 := Host.negf main_v102
  let main_values : FVec F S4x2048x17 .f32 := (fun x => (Host.topK S4x2048x17 2 (FloatOps.cmpfTotal .gt) x sliceFits_S4x2048x2048_S4x2048x17).1) main_v103
  let main_indices : IVec S4x2048x17 32 := (fun x => (Host.topK S4x2048x17 2 (FloatOps.cmpfTotal .gt) x sliceFits_S4x2048x2048_S4x2048x17).2) main_v103
  fn_part6 (F := F) main_v78 main_values

def fn_part4 {F : FTy → Type} [FloatOps F] (main_arg5 : FVec F S2048x4x3 .f32) (main_arg11 : FVec F S3x128 .f32) (main_arg14 : FVec F S256x256 .f32) (main_arg15 : FVec F S256x256 .f32) (main_v63 : IVec S_ 1) (main_v66 : IVec S256 1) (main_c_26 : IVec S_ 1) : IVec S_ 1 :=
  let main_v67 : IVec S_ 1 := (fun x v => Host.reduce IntOp.andi x v reducesTo_S256_S_d0 h_S_) main_v66 main_c_26
  let main_v68 : IVec S_ 1 := andi main_v63 main_v67
  let main_v69 : FVec F S256x256 .f32 := Host.absf main_arg14
  let main_cst_27 : FVec F S_ .f32 := constant S_ .f32 0x7F800000#32
  let main_v70 : FVec F S256x256 .f32 := broadcastInDim S256x256 ![] bcast_S_S256x256 main_cst_27
  let main_v71 : IVec S256x256 1 := cmpf .olt main_v69 main_v70
  let main_c_28 : IVec S_ 1 := constantI S_ 1 1#1
  let main_v72 : IVec S_ 1 := (fun x v => Host.reduce IntOp.andi x v reducesTo_S256x256_S_d0_1 h_S_) main_v71 main_c_28
  let main_v73 : IVec S_ 1 := andi main_v68 main_v72
  let main_v74 : FVec F S256x256 .f32 := Host.absf main_arg15
  let main_cst_29 : FVec F S_ .f32 := constant S_ .f32 0x7F800000#32
  let main_v75 : FVec F S256x256 .f32 := broadcastInDim S256x256 ![] bcast_S_S256x256 main_cst_29
  let main_v76 : IVec S256x256 1 := cmpf .olt main_v74 main_v75
  let main_c_30 : IVec S_ 1 := constantI S_ 1 1#1
  let main_v77 : IVec S_ 1 := (fun x v => Host.reduce IntOp.andi x v reducesTo_S256x256_S_d0_1 h_S_) main_v76 main_c_30
  let main_v78 : IVec S_ 1 := andi main_v73 main_v77
  let main_cst_31 : FVec F S_ .f32 := constant S_ .f32 0x7F800000#32
  let main_v79 : FVec F S4x3 .f32 := (fun x v => Host.reduce FloatOps.minimumf x v reducesTo_S2048x4x3_S4x3_d0 h_S_) main_arg5 main_cst_31
  let main_v80 : FVec F S1x4x3 .f32 := broadcastInDim S1x4x3 ![1, 2] bcast_S4x3_S1x4x3_1_2 main_v79
  let main_cst_32 : FVec F S_ .f32 := constant S_ .f32 0xFF800000#32
  let main_v81 : FVec F S4x3 .f32 := (fun x v => Host.reduce FloatOps.maximumf x v reducesTo_S2048x4x3_S4x3_d0 h_S_) main_arg5 main_cst_32
  let main_v82 : FVec F S1x4x3 .f32 := broadcastInDim S1x4x3 ![1, 2] bcast_S4x3_S1x4x3_1_2 main_v81
  let main_v83 : FVec F S2048x4x3 .f32 := broadcastInDim S2048x4x3 ![0, 1, 2] bcast_S1x4x3_S2048x4x3_0_1_2 main_v80
  let main_v84 : FVec F S2048x4x3 .f32 := subf main_arg5 main_v83
  fn_part5 (F := F) main_arg11 main_v78 main_v80 main_v82 main_v84

def fn_part3 {F : FTy → Type} [FloatOps F] (main_arg5 : FVec F S2048x4x3 .f32) (main_arg10 : FVec F S2250x16 .f32) (main_arg11 : FVec F S3x128 .f32) (main_arg12 : FVec F S384x256 .f32) (main_arg13 : FVec F S256 .f32) (main_arg14 : FVec F S256x256 .f32) (main_arg15 : FVec F S256x256 .f32) (main_v48 : IVec S_ 1) (main_v49 : FVec F S32x16 .f32) (main_cst_19 : FVec F S_ .f32) : IVec S_ 1 :=
  let main_v50 : FVec F S32x16 .f32 := broadcastInDim S32x16 ![] bcast_S_S32x16 main_cst_19
  let main_v51 : IVec S32x16 1 := cmpf .olt main_v49 main_v50
  let main_c_20 : IVec S_ 1 := constantI S_ 1 1#1
  let main_v52 : IVec S_ 1 := (fun x v => Host.reduce IntOp.andi x v reducesTo_S32x16_S_d0_1 h_S_) main_v51 main_c_20
  let main_v53 : IVec S_ 1 := andi main_v48 main_v52
  let main_v54 : FVec F S2250x16 .f32 := Host.absf main_arg10
  let main_cst_21 : FVec F S_ .f32 := constant S_ .f32 0x7F800000#32
  let main_v55 : FVec F S2250x16 .f32 := broadcastInDim S2250x16 ![] bcast_S_S2250x16 main_cst_21
  let main_v56 : IVec S2250x16 1 := cmpf .olt main_v54 main_v55
  let main_c_22 : IVec S_ 1 := constantI S_ 1 1#1
  let main_v57 : IVec S_ 1 := (fun x v => Host.reduce IntOp.andi x v reducesTo_S2250x16_S_d0_1 h_S_) main_v56 main_c_22
  let main_v58 : IVec S_ 1 := andi main_v53 main_v57
  let main_v59 : FVec F S384x256 .f32 := Host.absf main_arg12
  let main_cst_23 : FVec F S_ .f32 := constant S_ .f32 0x7F800000#32
  let main_v60 : FVec F S384x256 .f32 := broadcastInDim S384x256 ![] bcast_S_S384x256 main_cst_23
  let main_v61 : IVec S384x256 1 := cmpf .olt main_v59 main_v60
  let main_c_24 : IVec S_ 1 := constantI S_ 1 1#1
  let main_v62 : IVec S_ 1 := (fun x v => Host.reduce IntOp.andi x v reducesTo_S384x256_S_d0_1 h_S_) main_v61 main_c_24
  let main_v63 : IVec S_ 1 := andi main_v58 main_v62
  let main_v64 : FVec F S256 .f32 := Host.absf main_arg13
  let main_cst_25 : FVec F S_ .f32 := constant S_ .f32 0x7F800000#32
  let main_v65 : FVec F S256 .f32 := broadcastInDim S256 ![] bcast_S_S256 main_cst_25
  let main_v66 : IVec S256 1 := cmpf .olt main_v64 main_v65
  let main_c_26 : IVec S_ 1 := constantI S_ 1 1#1
  fn_part4 (F := F) main_arg5 main_arg11 main_arg14 main_arg15 main_v63 main_v66 main_c_26

def fn_part2 {F : FTy → Type} [FloatOps F] (main_arg5 : FVec F S2048x4x3 .f32) (main_arg6 : FVec F S256x28 .f32) (main_arg7 : FVec F S16x2 .f32) (main_arg8 : FVec F S8x2 .f32) (main_arg9 : FVec F S32x16 .f32) (main_arg10 : FVec F S2250x16 .f32) (main_arg11 : FVec F S3x128 .f32) (main_arg12 : FVec F S384x256 .f32) (main_arg13 : FVec F S256 .f32) (main_arg14 : FVec F S256x256 .f32) (main_arg15 : FVec F S256x256 .f32) (main_v26 : IVec S_ 1) (main_v32 : IVec S_ 1) : IVec S_ 1 :=
  let main_v33 : IVec S_ 1 := andi main_v26 main_v32
  let main_v34 : FVec F S256x28 .f32 := Host.absf main_arg6
  let main_cst : FVec F S_ .f32 := constant S_ .f32 0x7F800000#32
  let main_v35 : FVec F S256x28 .f32 := broadcastInDim S256x28 ![] bcast_S_S256x28 main_cst
  let main_v36 : IVec S256x28 1 := cmpf .olt main_v34 main_v35
  let main_c_14 : IVec S_ 1 := constantI S_ 1 1#1
  let main_v37 : IVec S_ 1 := (fun x v => Host.reduce IntOp.andi x v reducesTo_S256x28_S_d0_1 h_S_) main_v36 main_c_14
  let main_v38 : IVec S_ 1 := andi main_v33 main_v37
  let main_v39 : FVec F S16x2 .f32 := Host.absf main_arg7
  let main_cst_15 : FVec F S_ .f32 := constant S_ .f32 0x7F800000#32
  let main_v40 : FVec F S16x2 .f32 := broadcastInDim S16x2 ![] bcast_S_S16x2 main_cst_15
  let main_v41 : IVec S16x2 1 := cmpf .olt main_v39 main_v40
  let main_c_16 : IVec S_ 1 := constantI S_ 1 1#1
  let main_v42 : IVec S_ 1 := (fun x v => Host.reduce IntOp.andi x v reducesTo_S16x2_S_d0_1 h_S_) main_v41 main_c_16
  let main_v43 : IVec S_ 1 := andi main_v38 main_v42
  let main_v44 : FVec F S8x2 .f32 := Host.absf main_arg8
  let main_cst_17 : FVec F S_ .f32 := constant S_ .f32 0x7F800000#32
  let main_v45 : FVec F S8x2 .f32 := broadcastInDim S8x2 ![] bcast_S_S8x2 main_cst_17
  let main_v46 : IVec S8x2 1 := cmpf .olt main_v44 main_v45
  let main_c_18 : IVec S_ 1 := constantI S_ 1 1#1
  let main_v47 : IVec S_ 1 := (fun x v => Host.reduce IntOp.andi x v reducesTo_S8x2_S_d0_1 h_S_) main_v46 main_c_18
  let main_v48 : IVec S_ 1 := andi main_v43 main_v47
  let main_v49 : FVec F S32x16 .f32 := Host.absf main_arg9
  let main_cst_19 : FVec F S_ .f32 := constant S_ .f32 0x7F800000#32
  fn_part3 (F := F) main_arg5 main_arg10 main_arg11 main_arg12 main_arg13 main_arg14 main_arg15 main_v48 main_v49 main_cst_19

def fn_part1 {F : FTy → Type} [FloatOps F] (main_arg2 : IVec S2048x4x4 32) (main_arg3 : IVec S2048x4x4 32) (main_arg4 : IVec S2048x4x4 32) (main_arg5 : FVec F S2048x4x3 .f32) (main_arg6 : FVec F S256x28 .f32) (main_arg7 : FVec F S16x2 .f32) (main_arg8 : FVec F S8x2 .f32) (main_arg9 : FVec F S32x16 .f32) (main_arg10 : FVec F S2250x16 .f32) (main_arg11 : FVec F S3x128 .f32) (main_arg12 : FVec F S384x256 .f32) (main_arg13 : FVec F S256 .f32) (main_arg14 : FVec F S256x256 .f32) (main_arg15 : FVec F S256x256 .f32) (main_v12 : IVec S_ 1) (main_v14 : IVec S2048x4x4 1) (main_v15 : IVec S2048x4x4 32) : IVec S_ 1 :=
  let main_v16 : IVec S2048x4x4 1 := cmpi .slt main_arg2 main_v15
  let main_v17 : IVec S2048x4x4 1 := andi main_v14 main_v16
  let main_c_7 : IVec S_ 1 := constantI S_ 1 1#1
  let main_v18 : IVec S_ 1 := (fun x v => Host.reduce IntOp.andi x v reducesTo_S2048x4x4_S_d0_1_2 h_S_) main_v17 main_c_7
  let main_v19 : IVec S_ 1 := andi main_v12 main_v18
  let main_c_8 : IVec S_ 32 := constantI S_ 32 0#32
  let main_v20 : IVec S2048x4x4 32 := broadcastInDim S2048x4x4 ![] bcast_S_S2048x4x4 main_c_8
  let main_v21 : IVec S2048x4x4 1 := cmpi .sge main_arg3 main_v20
  let main_c_9 : IVec S_ 32 := constantI S_ 32 32#32
  let main_v22 : IVec S2048x4x4 32 := broadcastInDim S2048x4x4 ![] bcast_S_S2048x4x4 main_c_9
  let main_v23 : IVec S2048x4x4 1 := cmpi .slt main_arg3 main_v22
  let main_v24 : IVec S2048x4x4 1 := andi main_v21 main_v23
  let main_c_10 : IVec S_ 1 := constantI S_ 1 1#1
  let main_v25 : IVec S_ 1 := (fun x v => Host.reduce IntOp.andi x v reducesTo_S2048x4x4_S_d0_1_2 h_S_) main_v24 main_c_10
  let main_v26 : IVec S_ 1 := andi main_v19 main_v25
  let main_c_11 : IVec S_ 32 := constantI S_ 32 0#32
  let main_v27 : IVec S2048x4x4 32 := broadcastInDim S2048x4x4 ![] bcast_S_S2048x4x4 main_c_11
  let main_v28 : IVec S2048x4x4 1 := cmpi .sge main_arg4 main_v27
  let main_c_12 : IVec S_ 32 := constantI S_ 32 2250#32
  let main_v29 : IVec S2048x4x4 32 := broadcastInDim S2048x4x4 ![] bcast_S_S2048x4x4 main_c_12
  let main_v30 : IVec S2048x4x4 1 := cmpi .slt main_arg4 main_v29
  let main_v31 : IVec S2048x4x4 1 := andi main_v28 main_v30
  let main_c_13 : IVec S_ 1 := constantI S_ 1 1#1
  let main_v32 : IVec S_ 1 := (fun x v => Host.reduce IntOp.andi x v reducesTo_S2048x4x4_S_d0_1_2 h_S_) main_v31 main_c_13
  fn_part2 (F := F) main_arg5 main_arg6 main_arg7 main_arg8 main_arg9 main_arg10 main_arg11 main_arg12 main_arg13 main_arg14 main_arg15 main_v26 main_v32

def fn {F : FTy → Type} [FloatOps F] (main_arg0 : IVec S2048x4x4 32) (main_arg1 : IVec S2048x4x4 32) (main_arg2 : IVec S2048x4x4 32) (main_arg3 : IVec S2048x4x4 32) (main_arg4 : IVec S2048x4x4 32) (main_arg5 : FVec F S2048x4x3 .f32) (main_arg6 : FVec F S256x28 .f32) (main_arg7 : FVec F S16x2 .f32) (main_arg8 : FVec F S8x2 .f32) (main_arg9 : FVec F S32x16 .f32) (main_arg10 : FVec F S2250x16 .f32) (main_arg11 : FVec F S3x128 .f32) (main_arg12 : FVec F S384x256 .f32) (main_arg13 : FVec F S256 .f32) (main_arg14 : FVec F S256x256 .f32) (main_arg15 : FVec F S256x256 .f32) (main_arg16 : FVec F S256x256 .f32) (main_arg17 : FVec F S256x256 .f32) : IVec S_ 1 :=
  let main_c : IVec S_ 32 := constantI S_ 32 0#32
  let main_v0 : IVec S2048x4x4 32 := broadcastInDim S2048x4x4 ![] bcast_S_S2048x4x4 main_c
  let main_v1 : IVec S2048x4x4 1 := cmpi .sge main_arg0 main_v0
  let main_c_0 : IVec S_ 32 := constantI S_ 32 256#32
  let main_v2 : IVec S2048x4x4 32 := broadcastInDim S2048x4x4 ![] bcast_S_S2048x4x4 main_c_0
  let main_v3 : IVec S2048x4x4 1 := cmpi .slt main_arg0 main_v2
  let main_v4 : IVec S2048x4x4 1 := andi main_v1 main_v3
  let main_c_1 : IVec S_ 1 := constantI S_ 1 1#1
  let main_v5 : IVec S_ 1 := (fun x v => Host.reduce IntOp.andi x v reducesTo_S2048x4x4_S_d0_1_2 h_S_) main_v4 main_c_1
  let main_c_2 : IVec S_ 32 := constantI S_ 32 0#32
  let main_v6 : IVec S2048x4x4 32 := broadcastInDim S2048x4x4 ![] bcast_S_S2048x4x4 main_c_2
  let main_v7 : IVec S2048x4x4 1 := cmpi .sge main_arg1 main_v6
  let main_c_3 : IVec S_ 32 := constantI S_ 32 16#32
  let main_v8 : IVec S2048x4x4 32 := broadcastInDim S2048x4x4 ![] bcast_S_S2048x4x4 main_c_3
  let main_v9 : IVec S2048x4x4 1 := cmpi .slt main_arg1 main_v8
  let main_v10 : IVec S2048x4x4 1 := andi main_v7 main_v9
  let main_c_4 : IVec S_ 1 := constantI S_ 1 1#1
  let main_v11 : IVec S_ 1 := (fun x v => Host.reduce IntOp.andi x v reducesTo_S2048x4x4_S_d0_1_2 h_S_) main_v10 main_c_4
  let main_v12 : IVec S_ 1 := andi main_v5 main_v11
  let main_c_5 : IVec S_ 32 := constantI S_ 32 0#32
  let main_v13 : IVec S2048x4x4 32 := broadcastInDim S2048x4x4 ![] bcast_S_S2048x4x4 main_c_5
  let main_v14 : IVec S2048x4x4 1 := cmpi .sge main_arg2 main_v13
  let main_c_6 : IVec S_ 32 := constantI S_ 32 8#32
  let main_v15 : IVec S2048x4x4 32 := broadcastInDim S2048x4x4 ![] bcast_S_S2048x4x4 main_c_6
  fn_part1 (F := F) main_arg2 main_arg3 main_arg4 main_arg5 main_arg6 main_arg7 main_arg8 main_arg9 main_arg10 main_arg11 main_arg12 main_arg13 main_arg14 main_arg15 main_v12 main_v14 main_v15
-- ==== Kernel.lean ====
abbrev S2048x4x4 : Shape := ⟨3, ![2048, 4, 4]⟩
abbrev S2048x4x3 : Shape := ⟨3, ![2048, 4, 3]⟩
abbrev S256x28 : Shape := ⟨2, ![256, 28]⟩
abbrev S16x2 : Shape := ⟨2, ![16, 2]⟩
abbrev S8x2 : Shape := ⟨2, ![8, 2]⟩
abbrev S32x16 : Shape := ⟨2, ![32, 16]⟩
abbrev S2250x16 : Shape := ⟨2, ![2250, 16]⟩
abbrev S3x128 : Shape := ⟨2, ![3, 128]⟩
abbrev S384x256 : Shape := ⟨2, ![384, 256]⟩
abbrev S256 : Shape := ⟨1, ![256]⟩
abbrev S256x256 : Shape := ⟨2, ![256, 256]⟩
abbrev S4x2048x4 : Shape := ⟨3, ![4, 2048, 4]⟩
abbrev S8192x4 : Shape := ⟨2, ![8192, 4]⟩
abbrev S4x2048x3 : Shape := ⟨3, ![4, 2048, 3]⟩
abbrev S8192x3 : Shape := ⟨2, ![8192, 3]⟩
abbrev S8192x256 : Shape := ⟨2, ![8192, 256]⟩
abbrev S8192x128 : Shape := ⟨2, ![8192, 128]⟩
abbrev S4x2048x128 : Shape := ⟨3, ![4, 2048, 128]⟩
abbrev S4x2048x256 : Shape := ⟨3, ![4, 2048, 256]⟩
abbrev S4x3 : Shape := ⟨2, ![4, 3]⟩
abbrev S1x4x3 : Shape := ⟨3, ![1, 4, 3]⟩
abbrev S256x4 : Shape := ⟨2, ![256, 4]⟩
abbrev S256x3 : Shape := ⟨2, ![256, 3]⟩
abbrev S256x128 : Shape := ⟨2, ![256, 128]⟩
abbrev S256x1 : Shape := ⟨2, ![256, 1]⟩
abbrev S256x16 : Shape := ⟨2, ![256, 16]⟩
abbrev S256x2 : Shape := ⟨2, ![256, 2]⟩
abbrev S256x8 : Shape := ⟨2, ![256, 8]⟩
abbrev S256x32 : Shape := ⟨2, ![256, 32]⟩
abbrev S256x2250 : Shape := ⟨2, ![256, 2250]⟩
abbrev S256x384 : Shape := ⟨2, ![256, 384]⟩
abbrev S1x256 : Shape := ⟨2, ![1, 256]⟩
abbrev S1x256x128 : Shape := ⟨3, ![1, 256, 128]⟩
abbrev S1x2048x128 : Shape := ⟨3, ![1, 2048, 128]⟩
abbrev S1x256x256 : Shape := ⟨3, ![1, 256, 256]⟩
abbrev S1x2048x256 : Shape := ⟨3, ![1, 2048, 256]⟩
abbrev S2048x128 : Shape := ⟨2, ![2048, 128]⟩
abbrev S2048 : Shape := ⟨1, ![2048]⟩
abbrev S256x2048 : Shape := ⟨2, ![256, 2048]⟩
abbrev S1x2048 : Shape := ⟨2, ![1, 2048]⟩
abbrev S2048x256 : Shape := ⟨2, ![2048, 256]⟩

abbrev nBuf : Space → Nat
  | .hbm => 42
  | .vmem => 50
  | .smem => 0
  | _ => 0

abbrev bufTy : (tb : Table) → Fin (tcTables nBuf tb) → BufTy
  | .hbm, ⟨0, _⟩ => ⟨S2048x4x4, .i32⟩
  | .hbm, ⟨1, _⟩ => ⟨S2048x4x4, .i32⟩
  | .hbm, ⟨2, _⟩ => ⟨S2048x4x4, .i32⟩
  | .hbm, ⟨3, _⟩ => ⟨S2048x4x4, .i32⟩
  | .hbm, ⟨4, _⟩ => ⟨S2048x4x4, .i32⟩
  | .hbm, ⟨5, _⟩ => ⟨S2048x4x3, .f32⟩
  | .hbm, ⟨6, _⟩ => ⟨S256x28, .f32⟩
  | .hbm, ⟨7, _⟩ => ⟨S16x2, .f32⟩
  | .hbm, ⟨8, _⟩ => ⟨S8x2, .f32⟩
  | .hbm, ⟨9, _⟩ => ⟨S32x16, .f32⟩
  | .hbm, ⟨10, _⟩ => ⟨S2250x16, .f32⟩
  | .hbm, ⟨11, _⟩ => ⟨S3x128, .f32⟩
  | .hbm, ⟨12, _⟩ => ⟨S384x256, .f32⟩
  | .hbm, ⟨13, _⟩ => ⟨S256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S4x2048x4, .i32⟩
  | .hbm, ⟨19, _⟩ => ⟨S8192x4, .i32⟩
  | .hbm, ⟨20, _⟩ => ⟨S4x2048x4, .i32⟩
  | .hbm, ⟨21, _⟩ => ⟨S8192x4, .i32⟩
  | .hbm, ⟨22, _⟩ => ⟨S4x2048x4, .i32⟩
  | .hbm, ⟨23, _⟩ => ⟨S8192x4, .i32⟩
  | .hbm, ⟨24, _⟩ => ⟨S4x2048x4, .i32⟩
  | .hbm, ⟨25, _⟩ => ⟨S8192x4, .i32⟩
  | .hbm, ⟨26, _⟩ => ⟨S4x2048x4, .i32⟩
  | .hbm, ⟨27, _⟩ => ⟨S8192x4, .i32⟩
  | .hbm, ⟨28, _⟩ => ⟨S2048x4x3, .f32⟩
  | .hbm, ⟨29, _⟩ => ⟨S4x2048x3, .f32⟩
  | .hbm, ⟨30, _⟩ => ⟨S8192x3, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x128, .f32⟩
  | .hbm, ⟨36, _⟩ => ⟨S4x2048x128, .f32⟩
  | .hbm, ⟨37, _⟩ => ⟨S4x2048x256, .f32⟩
  | .hbm, ⟨38, _⟩ => ⟨S4x2048x256, .f32⟩
  | .hbm, ⟨39, _⟩ => ⟨S4x2048x256, .f32⟩
  | .hbm, ⟨40, _⟩ => ⟨S4x2048x256, .f32⟩
  | .hbm, ⟨41, _⟩ => ⟨S4x2048x256, .f32⟩
  | .local _ .vmem, ⟨0, _⟩ => ⟨S2048x4x3, .f32⟩
  | .local _ .vmem, ⟨1, _⟩ => ⟨S2048x4x3, .f32⟩
  | .local _ .vmem, ⟨2, _⟩ => ⟨S256x4, .i32⟩
  | .local _ .vmem, ⟨3, _⟩ => ⟨S256x4, .i32⟩
  | .local _ .vmem, ⟨4, _⟩ => ⟨S256x4, .i32⟩
  | .local _ .vmem, ⟨5, _⟩ => ⟨S256x4, .i32⟩
  | .local _ .vmem, ⟨6, _⟩ => ⟨S256x4, .i32⟩
  | .local _ .vmem, ⟨7, _⟩ => ⟨S256x4, .i32⟩
  | .local _ .vmem, ⟨8, _⟩ => ⟨S256x4, .i32⟩
  | .local _ .vmem, ⟨9, _⟩ => ⟨S256x4, .i32⟩
  | .local _ .vmem, ⟨10, _⟩ => ⟨S256x4, .i32⟩
  | .local _ .vmem, ⟨11, _⟩ => ⟨S256x4, .i32⟩
  | .local _ .vmem, ⟨12, _⟩ => ⟨S256x3, .f32⟩
  | .local _ .vmem, ⟨13, _⟩ => ⟨S256x3, .f32⟩
  | .local _ .vmem, ⟨14, _⟩ => ⟨S256x28, .f32⟩
  | .local _ .vmem, ⟨15, _⟩ => ⟨S16x2, .f32⟩
  | .local _ .vmem, ⟨16, _⟩ => ⟨S8x2, .f32⟩
  | .local _ .vmem, ⟨17, _⟩ => ⟨S32x16, .f32⟩
  | .local _ .vmem, ⟨18, _⟩ => ⟨S2250x16, .f32⟩
  | .local _ .vmem, ⟨19, _⟩ => ⟨S3x128, .f32⟩
  | .local _ .vmem, ⟨20, _⟩ => ⟨S384x256, .f32⟩
  | .local _ .vmem, ⟨21, _⟩ => ⟨S256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .vmem, ⟨26, _⟩ => ⟨S256x256, .f32⟩
  | .local _ .vmem, ⟨27, _⟩ => ⟨S256x256, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x128, .f32⟩
  | .local _ .vmem, ⟨34, _⟩ => ⟨S256x128, .f32⟩
  | .local _ .vmem, ⟨35, _⟩ => ⟨S1x256x128, .f32⟩
  | .local _ .vmem, ⟨36, _⟩ => ⟨S1x256x128, .f32⟩
  | .local _ .vmem, ⟨37, _⟩ => ⟨S1x2048x128, .f32⟩
  | .local _ .vmem, ⟨38, _⟩ => ⟨S1x2048x128, .f32⟩
  | .local _ .vmem, ⟨39, _⟩ => ⟨S1x256x256, .f32⟩
  | .local _ .vmem, ⟨40, _⟩ => ⟨S1x256x256, .f32⟩
  | .local _ .vmem, ⟨41, _⟩ => ⟨S1x2048x256, .f32⟩
  | .local _ .vmem, ⟨42, _⟩ => ⟨S1x2048x256, .f32⟩
  | .local _ .vmem, ⟨43, _⟩ => ⟨S1x2048x256, .f32⟩
  | .local _ .vmem, ⟨44, _⟩ => ⟨S1x2048x256, .f32⟩
  | .local _ .vmem, ⟨45, _⟩ => ⟨S1x256x256, .f32⟩
  | .local _ .vmem, ⟨46, _⟩ => ⟨S1x256x256, .f32⟩
  | .local _ .vmem, ⟨47, _⟩ => ⟨S256x256, .f32⟩
  | .local _ .vmem, ⟨48, _⟩ => ⟨S1x256x256, .f32⟩
  | .local _ .vmem, ⟨49, _⟩ => ⟨S1x256x256, .f32⟩
  | _, _ => ⟨S2048x4x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13_0 : Ref sig .tc := ⟨.hbm, 31, rfl⟩
abbrev main_call0_v13_1 : Ref sig .tc := ⟨.hbm, 32, rfl⟩
abbrev main_call0_v13_2 : Ref sig .tc := ⟨.hbm, 33, rfl⟩
abbrev main_call0_v13_3 : Ref sig .tc := ⟨.hbm, 34, rfl⟩
abbrev main_call0_v13_4 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_v0 : Ref sig .tc := ⟨.hbm, 41, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg10_0 : Ref sig .tc := ⟨.vmem, 18, rfl⟩
abbrev cc1_stg11_0 : Ref sig .tc := ⟨.vmem, 19, rfl⟩
abbrev cc1_stg12_0 : Ref sig .tc := ⟨.vmem, 20, rfl⟩
abbrev cc1_stg13_0 : Ref sig .tc := ⟨.vmem, 21, rfl⟩
abbrev cc1_stg14_0 : Ref sig .tc := ⟨.vmem, 22, rfl⟩
abbrev cc1_stg15_0 : Ref sig .tc := ⟨.vmem, 23, rfl⟩
abbrev cc1_stg16_0 : Ref sig .tc := ⟨.vmem, 24, rfl⟩
abbrev cc1_stg17_0 : Ref sig .tc := ⟨.vmem, 25, rfl⟩
abbrev cc1_stg17_1 : Ref sig .tc := ⟨.vmem, 26, rfl⟩
abbrev cc1_stg18_0 : Ref sig .tc := ⟨.vmem, 27, rfl⟩
abbrev cc1_stg18_1 : Ref sig .tc := ⟨.vmem, 28, rfl⟩
abbrev cc1_stg19_0 : Ref sig .tc := ⟨.vmem, 29, rfl⟩
abbrev cc1_stg19_1 : Ref sig .tc := ⟨.vmem, 30, rfl⟩
abbrev cc1_stg20_0 : Ref sig .tc := ⟨.vmem, 31, rfl⟩
abbrev cc1_stg20_1 : Ref sig .tc := ⟨.vmem, 32, rfl⟩
abbrev cc1_stg21_0 : Ref sig .tc := ⟨.vmem, 33, rfl⟩
abbrev cc1_stg21_1 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg2_1 : Ref sig .tc := ⟨.vmem, 40, rfl⟩
abbrev cc2_stg3_0 : Ref sig .tc := ⟨.vmem, 41, rfl⟩
abbrev cc2_stg3_1 : Ref sig .tc := ⟨.vmem, 42, rfl⟩
abbrev cc2_stg4_0 : Ref sig .tc := ⟨.vmem, 43, rfl⟩
abbrev cc2_stg4_1 : Ref sig .tc := ⟨.vmem, 44, rfl⟩
abbrev cc2_stg5_0 : Ref sig .tc := ⟨.vmem, 45, rfl⟩
abbrev cc2_stg5_1 : Ref sig .tc := ⟨.vmem, 46, rfl⟩
abbrev cc2_stg6_0 : Ref sig .tc := ⟨.vmem, 47, rfl⟩
abbrev cc2_stg7_0 : Ref sig .tc := ⟨.vmem, 48, rfl⟩
abbrev cc2_stg7_1 : Ref sig .tc := ⟨.vmem, 49, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem11_0 : DmaSem sig := 19
abbrev cc1_sem12_0 : DmaSem sig := 20
abbrev cc1_sem13_0 : DmaSem sig := 21
abbrev cc1_sem14_0 : DmaSem sig := 22
abbrev cc1_sem15_0 : DmaSem sig := 23
abbrev cc1_sem16_0 : DmaSem sig := 24
abbrev cc1_sem17_0 : DmaSem sig := 25
abbrev cc1_sem17_1 : DmaSem sig := 26
abbrev cc1_sem18_0 : DmaSem sig := 27
abbrev cc1_sem18_1 : DmaSem sig := 28
abbrev cc1_sem19_0 : DmaSem sig := 29
abbrev cc1_sem19_1 : DmaSem sig := 30
abbrev cc1_sem20_0 : DmaSem sig := 31
abbrev cc1_sem20_1 : DmaSem sig := 32
abbrev cc1_sem21_0 : DmaSem sig := 33
abbrev cc1_sem21_1 : DmaSem sig := 34
abbrev cc2_sem0_0 : DmaSem sig := 35
abbrev cc2_sem0_1 : DmaSem sig := 36
abbrev cc2_sem1_0 : DmaSem sig := 37
abbrev cc2_sem1_1 : DmaSem sig := 38
abbrev cc2_sem2_0 : DmaSem sig := 39
abbrev cc2_sem2_1 : DmaSem sig := 40
abbrev cc2_sem3_0 : DmaSem sig := 41
abbrev cc2_sem3_1 : DmaSem sig := 42
abbrev cc2_sem4_0 : DmaSem sig := 43
abbrev cc2_sem4_1 : DmaSem sig := 44
abbrev cc2_sem5_0 : DmaSem sig := 45
abbrev cc2_sem5_1 : DmaSem sig := 46
abbrev cc2_sem6_0 : DmaSem sig := 47
abbrev cc2_sem7_0 : DmaSem sig := 48
abbrev cc2_sem7_1 : DmaSem sig := 49

abbrev nD : Nat := 1
abbrev τ : Topo := Topo.v7x

variable {F : FTy → Type} [FloatOps F]

abbrev grid0 : Pipeline.Grid := .none

abbrev stage0_0 : Fin 1 → Memref sig .tc .vmem S2048x4x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_18 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_19 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_20 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_21 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x4 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x4 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x3 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S256x28 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x2 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S2250x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S3x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S384x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S256x256 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S256x256 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S256x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S256x256 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S256x256 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

abbrev stage1_19 : Fin 2 → Memref sig .tc .vmem S256x256 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true]

abbrev stage1_20 : Fin 2 → Memref sig .tc .vmem S256x256 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true]

abbrev stage1_21 : Fin 2 → Memref sig .tc .vmem S256x128 .f32 := fun | 0 => Memref.whole cc1_stg21_0 | 1 => Memref.whole cc1_stg21_1 | ⟨_ + 2, h⟩ => absurd h (Nat.not_lt.2 (Nat.le_add_left _ _))
abbrev sem1_21 : Fin 2 → DmaSem sig := fun | 0 => cc1_sem21_0 | 1 => cc1_sem21_1 | ⟨_ + 2, h⟩ => absurd h (Nat.not_lt.2 (Nat.le_add_left _ _))
abbrev reads1_21 : Fin grid1.rank → Bool := ![true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x2048x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x256x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x256x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== ReferenceIdeal.lean ====
abbrev S2048x4x4 : Shape := ⟨3, ![2048, 4, 4]⟩
abbrev S2048x4x3 : Shape := ⟨3, ![2048, 4, 3]⟩
abbrev S256x28 : Shape := ⟨2, ![256, 28]⟩
abbrev S16x2 : Shape := ⟨2, ![16, 2]⟩
abbrev S8x2 : Shape := ⟨2, ![8, 2]⟩
abbrev S32x16 : Shape := ⟨2, ![32, 16]⟩
abbrev S2250x16 : Shape := ⟨2, ![2250, 16]⟩
abbrev S3x128 : Shape := ⟨2, ![3, 128]⟩
abbrev S384x256 : Shape := ⟨2, ![384, 256]⟩
abbrev S256 : Shape := ⟨1, ![256]⟩
abbrev S256x256 : Shape := ⟨2, ![256, 256]⟩
abbrev S_ : Shape := ⟨0, ![]⟩
abbrev S2048x4x4x1 : Shape := ⟨4, ![2048, 4, 4, 1]⟩
abbrev S1 : Shape := ⟨1, ![1]⟩
abbrev S1x1x1x1 : Shape := ⟨4, ![1, 1, 1, 1]⟩
abbrev S2048x4x4x28 : Shape := ⟨4, ![2048, 4, 4, 28]⟩
abbrev S2048x4x4x2 : Shape := ⟨4, ![2048, 4, 4, 2]⟩
abbrev S2048x4x4x16 : Shape := ⟨4, ![2048, 4, 4, 16]⟩
abbrev S4x3 : Shape := ⟨2, ![4, 3]⟩
abbrev S1x4x3 : Shape := ⟨3, ![1, 4, 3]⟩
abbrev S2048x4x128 : Shape := ⟨3, ![2048, 4, 128]⟩
abbrev S2048x4x4x32 : Shape := ⟨4, ![2048, 4, 4, 32]⟩
abbrev S2048x4x384 : Shape := ⟨3, ![2048, 4, 384]⟩
abbrev S2048x4x256 : Shape := ⟨3, ![2048, 4, 256]⟩
abbrev S1x1x256 : Shape := ⟨3, ![1, 1, 256]⟩
abbrev S4x2048x128 : Shape := ⟨3, ![4, 2048, 128]⟩
abbrev S4x2048x256 : Shape := ⟨3, ![4, 2048, 256]⟩
abbrev S4x2048 : Shape := ⟨2, ![4, 2048]⟩
abbrev S4x2048x1 : Shape := ⟨3, ![4, 2048, 1]⟩
abbrev S4x1x2048 : Shape := ⟨3, ![4, 1, 2048]⟩
abbrev S4x2048x2048 : Shape := ⟨3, ![4, 2048, 2048]⟩
abbrev S4x2048x16 : Shape := ⟨3, ![4, 2048, 16]⟩
abbrev S4x2048x16x1 : Shape := ⟨4, ![4, 2048, 16, 1]⟩
abbrev S4x2048x16x256 : Shape := ⟨4, ![4, 2048, 16, 256]⟩

abbrev nBuf : Space → Nat
  | .hbm => 209
  | .vmem => 0
  | .smem => 0
  | _ => 0

abbrev hbmTy0_0 (i : Nat) : BufTy := match i % 128 with
  | 0 => ⟨S2048x4x4, .i32⟩
  | 1 => ⟨S2048x4x4, .i32⟩
  | 2 => ⟨S2048x4x4, .i32⟩
  | 3 => ⟨S2048x4x4, .i32⟩
  | 4 => ⟨S2048x4x4, .i32⟩
  | 5 => ⟨S2048x4x3, .f32⟩
  | 6 => ⟨S256x28, .f32⟩
  | 7 => ⟨S16x2, .f32⟩
  | 8 => ⟨S8x2, .f32⟩
  | 9 => ⟨S32x16, .f32⟩
  | 10 => ⟨S2250x16, .f32⟩
  | 11 => ⟨S3x128, .f32⟩
  | 12 => ⟨S384x256, .f32⟩
  | 13 => ⟨S256, .f32⟩
  | 14 => ⟨S256x256, .f32⟩
  | 15 => ⟨S256x256, .f32⟩
  | 16 => ⟨S256x256, .f32⟩
  | 17 => ⟨S256x256, .f32⟩
  | 18 => ⟨S_, .i32⟩
  | 19 => ⟨S2048x4x4, .i32⟩
  | 20 => ⟨S2048x4x4, .i1⟩
  | 21 => ⟨S_, .i32⟩
  | 22 => ⟨S2048x4x4, .i32⟩
  | 23 => ⟨S2048x4x4, .i32⟩
  | 24 => ⟨S2048x4x4, .i32⟩
  | 25 => ⟨S2048x4x4x1, .i32⟩
  | 26 => ⟨S1, .i32⟩
  | 27 => ⟨S_, .i32⟩
  | 28 => ⟨S2048x4x4x1, .i32⟩
  | 29 => ⟨S2048x4x4x1, .i1⟩
  | 30 => ⟨S1x1x1x1, .i32⟩
  | 31 => ⟨S2048x4x4x1, .i32⟩
  | 32 => ⟨S2048x4x4x1, .i1⟩
  | 33 => ⟨S2048x4x4x1, .i1⟩
  | 34 => ⟨S_, .i1⟩
  | 35 => ⟨S2048x4x4, .i1⟩
  | 36 => ⟨S2048x4x4x28, .f32⟩
  | 37 => ⟨S2048x4x4x28, .i1⟩
  | 38 => ⟨S_, .f32⟩
  | 39 => ⟨S2048x4x4x28, .f32⟩
  | 40 => ⟨S2048x4x4x28, .f32⟩
  | 41 => ⟨S_, .i32⟩
  | 42 => ⟨S2048x4x4, .i32⟩
  | 43 => ⟨S2048x4x4, .i1⟩
  | 44 => ⟨S_, .i32⟩
  | 45 => ⟨S2048x4x4, .i32⟩
  | 46 => ⟨S2048x4x4, .i32⟩
  | 47 => ⟨S2048x4x4, .i32⟩
  | 48 => ⟨S2048x4x4x1, .i32⟩
  | 49 => ⟨S1, .i32⟩
  | 50 => ⟨S_, .i32⟩
  | 51 => ⟨S2048x4x4x1, .i32⟩
  | 52 => ⟨S2048x4x4x1, .i1⟩
  | 53 => ⟨S1x1x1x1, .i32⟩
  | 54 => ⟨S2048x4x4x1, .i32⟩
  | 55 => ⟨S2048x4x4x1, .i1⟩
  | 56 => ⟨S2048x4x4x1, .i1⟩
  | 57 => ⟨S_, .i1⟩
  | 58 => ⟨S2048x4x4, .i1⟩
  | 59 => ⟨S2048x4x4x2, .f32⟩
  | 60 => ⟨S2048x4x4x2, .i1⟩
  | 61 => ⟨S_, .f32⟩
  | 62 => ⟨S2048x4x4x2, .f32⟩
  | 63 => ⟨S2048x4x4x2, .f32⟩
  | 64 => ⟨S_, .i32⟩
  | 65 => ⟨S2048x4x4, .i32⟩
  | 66 => ⟨S2048x4x4, .i1⟩
  | 67 => ⟨S_, .i32⟩
  | 68 => ⟨S2048x4x4, .i32⟩
  | 69 => ⟨S2048x4x4, .i32⟩
  | 70 => ⟨S2048x4x4, .i32⟩
  | 71 => ⟨S2048x4x4x1, .i32⟩
  | 72 => ⟨S1, .i32⟩
  | 73 => ⟨S_, .i32⟩
  | 74 => ⟨S2048x4x4x1, .i32⟩
  | 75 => ⟨S2048x4x4x1, .i1⟩
  | 76 => ⟨S1x1x1x1, .i32⟩
  | 77 => ⟨S2048x4x4x1, .i32⟩
  | 78 => ⟨S2048x4x4x1, .i1⟩
  | 79 => ⟨S2048x4x4x1, .i1⟩
  | 80 => ⟨S_, .i1⟩
  | 81 => ⟨S2048x4x4, .i1⟩
  | 82 => ⟨S2048x4x4x2, .f32⟩
  | 83 => ⟨S2048x4x4x2, .i1⟩
  | 84 => ⟨S_, .f32⟩
  | 85 => ⟨S2048x4x4x2, .f32⟩
  | 86 => ⟨S2048x4x4x2, .f32⟩
  | 87 => ⟨S_, .i32⟩
  | 88 => ⟨S2048x4x4, .i32⟩
  | 89 => ⟨S2048x4x4, .i1⟩
  | 90 => ⟨S_, .i32⟩
  | 91 => ⟨S2048x4x4, .i32⟩
  | 92 => ⟨S2048x4x4, .i32⟩
  | 93 => ⟨S2048x4x4, .i32⟩
  | 94 => ⟨S2048x4x4x1, .i32⟩
  | 95 => ⟨S1, .i32⟩
  | 96 => ⟨S_, .i32⟩
  | 97 => ⟨S2048x4x4x1, .i32⟩
  | 98 => ⟨S2048x4x4x1, .i1⟩
  | 99 => ⟨S1x1x1x1, .i32⟩
  | 100 => ⟨S2048x4x4x1, .i32⟩
  | 101 => ⟨S2048x4x4x1, .i1⟩
  | 102 => ⟨S2048x4x4x1, .i1⟩
  | 103 => ⟨S_, .i1⟩
  | 104 => ⟨S2048x4x4, .i1⟩
  | 105 => ⟨S2048x4x4x16, .f32⟩
  | 106 => ⟨S2048x4x4x16, .i1⟩
  | 107 => ⟨S_, .f32⟩
  | 108 => ⟨S2048x4x4x16, .f32⟩
  | 109 => ⟨S2048x4x4x16, .f32⟩
  | 110 => ⟨S_, .i32⟩
  | 111 => ⟨S2048x4x4, .i32⟩
  | 112 => ⟨S2048x4x4, .i1⟩
  | 113 => ⟨S_, .i32⟩
  | 114 => ⟨S2048x4x4, .i32⟩
  | 115 => ⟨S2048x4x4, .i32⟩
  | 116 => ⟨S2048x4x4, .i32⟩
  | 117 => ⟨S2048x4x4x1, .i32⟩
  | 118 => ⟨S1, .i32⟩
  | 119 => ⟨S_, .i32⟩
  | 120 => ⟨S2048x4x4x1, .i32⟩
  | 121 => ⟨S2048x4x4x1, .i1⟩
  | 122 => ⟨S1x1x1x1, .i32⟩
  | 123 => ⟨S2048x4x4x1, .i32⟩
  | 124 => ⟨S2048x4x4x1, .i1⟩
  | 125 => ⟨S2048x4x4x1, .i1⟩
  | 126 => ⟨S_, .i1⟩
  | 127 => ⟨S2048x4x4, .i1⟩
  | _ => ⟨S2048x4x4, .i32⟩

abbrev hbmTy0_1 (i : Nat) : BufTy := match i % 128 with
  | 0 => ⟨S2048x4x4x16, .f32⟩
  | 1 => ⟨S2048x4x4x16, .i1⟩
  | 2 => ⟨S_, .f32⟩
  | 3 => ⟨S2048x4x4x16, .f32⟩
  | 4 => ⟨S2048x4x4x16, .f32⟩
  | 5 => ⟨S_, .f32⟩
  | 6 => ⟨S4x3, .f32⟩
  | 7 => ⟨S1x4x3, .f32⟩
  | 8 => ⟨S_, .f32⟩
  | 9 => ⟨S4x3, .f32⟩
  | 10 => ⟨S1x4x3, .f32⟩
  | 11 => ⟨S2048x4x3, .f32⟩
  | 12 => ⟨S2048x4x3, .f32⟩
  | 13 => ⟨S1x4x3, .f32⟩
  | 14 => ⟨S_, .f32⟩
  | 15 => ⟨S1x4x3, .f32⟩
  | 16 => ⟨S1x4x3, .f32⟩
  | 17 => ⟨S2048x4x3, .f32⟩
  | 18 => ⟨S2048x4x3, .f32⟩
  | 19 => ⟨S2048x4x128, .f32⟩
  | 20 => ⟨S2048x4x4x32, .f32⟩
  | 21 => ⟨S2048x4x128, .f32⟩
  | 22 => ⟨S2048x4x4x32, .f32⟩
  | 23 => ⟨S2048x4x128, .f32⟩
  | 24 => ⟨S2048x4x384, .f32⟩
  | 25 => ⟨S2048x4x256, .f32⟩
  | 26 => ⟨S1x1x256, .f32⟩
  | 27 => ⟨S2048x4x256, .f32⟩
  | 28 => ⟨S2048x4x256, .f32⟩
  | 29 => ⟨S4x2048x128, .f32⟩
  | 30 => ⟨S4x2048x256, .f32⟩
  | 31 => ⟨S4x2048x128, .f32⟩
  | 32 => ⟨S_, .f32⟩
  | 33 => ⟨S4x2048, .f32⟩
  | 34 => ⟨S4x2048x1, .f32⟩
  | 35 => ⟨S4x1x2048, .f32⟩
  | 36 => ⟨S4x2048x2048, .f32⟩
  | 37 => ⟨S4x2048x2048, .f32⟩
  | 38 => ⟨S4x2048x2048, .f32⟩
  | 39 => ⟨S4x2048x2048, .f32⟩
  | 40 => ⟨S_, .f32⟩
  | 41 => ⟨S4x2048x2048, .f32⟩
  | 42 => ⟨S4x2048x2048, .f32⟩
  | 43 => ⟨S4x2048x2048, .f32⟩
  | 44 => ⟨S4x2048x2048, .f32⟩
  | 45 => ⟨S4x2048x16, .f32⟩
  | 46 => ⟨S4x2048x16, .i32⟩
  | 47 => ⟨S_, .i32⟩
  | 48 => ⟨S4x2048x16, .i32⟩
  | 49 => ⟨S4x2048x16, .i1⟩
  | 50 => ⟨S_, .i32⟩
  | 51 => ⟨S4x2048x16, .i32⟩
  | 52 => ⟨S4x2048x16, .i32⟩
  | 53 => ⟨S4x2048x16, .i32⟩
  | 54 => ⟨S4x2048x16x1, .i32⟩
  | 55 => ⟨S4x2048x16x256, .f32⟩
  | 56 => ⟨S4x2048x256, .f32⟩
  | 57 => ⟨S4x2048x16x256, .f32⟩
  | 58 => ⟨S4x2048x16x256, .f32⟩
  | 59 => ⟨S4x2048x16, .f32⟩
  | 60 => ⟨S_, .f32⟩
  | 61 => ⟨S_, .f32⟩
  | 62 => ⟨S4x2048x16, .f32⟩
  | 63 => ⟨S4x2048x16, .f32⟩
  | 64 => ⟨S_, .f32⟩
  | 65 => ⟨S4x2048, .f32⟩
  | 66 => ⟨S_, .f32⟩
  | 67 => ⟨S4x2048, .f32⟩
  | 68 => ⟨S4x2048, .f32⟩
  | 69 => ⟨S4x2048x1, .f32⟩
  | 70 => ⟨S4x2048x16, .f32⟩
  | 71 => ⟨S4x2048x16, .f32⟩
  | 72 => ⟨S4x2048x16, .f32⟩
  | 73 => ⟨S_, .f32⟩
  | 74 => ⟨S4x2048, .f32⟩
  | 75 => ⟨S4x2048x1, .f32⟩
  | 76 => ⟨S4x2048x16, .f32⟩
  | 77 => ⟨S4x2048x16, .f32⟩
  | 78 => ⟨S4x2048x256, .f32⟩
  | 79 => ⟨S4x2048x256, .f32⟩
  | 80 => ⟨S4x2048x256, .f32⟩
  | _ => ⟨S2048x4x4, .i32⟩

abbrev hbmTy (i : Nat) : BufTy := match i / 128 with
  | 0 => hbmTy0_0 i
  | 1 => hbmTy0_1 i
  | _ => ⟨S2048x4x4, .i32⟩

abbrev bufTy : (tb : Table) → Fin (tcTables nBuf tb) → BufTy
  | .hbm, ⟨i, _⟩ => hbmTy i
  | _, _ => ⟨S2048x4x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v0 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v1 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v2 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v3 : Ref sig .tc := ⟨.hbm, 109, rfl⟩
abbrev main_call4_c : Ref sig .tc := ⟨.hbm, 110, rfl⟩
abbrev main_call4_v0 : Ref sig .tc := ⟨.hbm, 111, rfl⟩
abbrev main_call4_v1 : Ref sig .tc := ⟨.hbm, 112, rfl⟩
abbrev main_call4_c_0 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_c_1 : Ref sig .tc := ⟨.hbm, 118, rfl⟩
abbrev main_call4_c_2 : Ref sig .tc := ⟨.hbm, 119, rfl⟩
abbrev main_call4_v6 : Ref sig .tc := ⟨.hbm, 120, rfl⟩
abbrev main_call4_v7 : Ref sig .tc := ⟨.hbm, 121, rfl⟩
abbrev main_call4_v8 : Ref sig .tc := ⟨.hbm, 122, rfl⟩
abbrev main_call4_v9 : Ref sig .tc := ⟨.hbm, 123, rfl⟩
abbrev main_call4_v10 : Ref sig .tc := ⟨.hbm, 124, rfl⟩
abbrev main_call4_v11 : Ref sig .tc := ⟨.hbm, 125, rfl⟩
abbrev main_call4_c_3 : Ref sig .tc := ⟨.hbm, 126, rfl⟩
abbrev main_call4_v12 : Ref sig .tc := ⟨.hbm, 127, rfl⟩
abbrev main_call4_v13 : Ref sig .tc := ⟨.hbm, 128, rfl⟩
abbrev main_call4_v14 : Ref sig .tc := ⟨.hbm, 129, rfl⟩
abbrev main_call4_cst : Ref sig .tc := ⟨.hbm, 130, rfl⟩
abbrev main_call4_v15 : Ref sig .tc := ⟨.hbm, 131, rfl⟩
abbrev main_v4 : Ref sig .tc := ⟨.hbm, 132, rfl⟩
abbrev main_cst : Ref sig .tc := ⟨.hbm, 133, rfl⟩
abbrev main_v5 : Ref sig .tc := ⟨.hbm, 134, rfl⟩
abbrev main_v6 : Ref sig .tc := ⟨.hbm, 135, rfl⟩
abbrev main_cst_0 : Ref sig .tc := ⟨.hbm, 136, rfl⟩
abbrev main_v7 : Ref sig .tc := ⟨.hbm, 137, rfl⟩
abbrev main_v8 : Ref sig .tc := ⟨.hbm, 138, rfl⟩
abbrev main_v9 : Ref sig .tc := ⟨.hbm, 139, rfl⟩
abbrev main_v10 : Ref sig .tc := ⟨.hbm, 140, rfl⟩
abbrev main_v11 : Ref sig .tc := ⟨.hbm, 141, rfl⟩
abbrev main_cst_1 : Ref sig .tc := ⟨.hbm, 142, rfl⟩
abbrev main_v12 : Ref sig .tc := ⟨.hbm, 143, rfl⟩
abbrev main_v13 : Ref sig .tc := ⟨.hbm, 144, rfl⟩
abbrev main_v14 : Ref sig .tc := ⟨.hbm, 145, rfl⟩
abbrev main_v15 : Ref sig .tc := ⟨.hbm, 146, rfl⟩
abbrev main_v16 : Ref sig .tc := ⟨.hbm, 147, rfl⟩
abbrev main_v17 : Ref sig .tc := ⟨.hbm, 148, rfl⟩
abbrev main_v18 : Ref sig .tc := ⟨.hbm, 149, rfl⟩
abbrev main_v19 : Ref sig .tc := ⟨.hbm, 150, rfl⟩
abbrev main_v20 : Ref sig .tc := ⟨.hbm, 151, rfl⟩
abbrev main_v21 : Ref sig .tc := ⟨.hbm, 152, rfl⟩
abbrev main_v22 : Ref sig .tc := ⟨.hbm, 153, rfl⟩
abbrev main_v23 : Ref sig .tc := ⟨.hbm, 154, rfl⟩
abbrev main_v24 : Ref sig .tc := ⟨.hbm, 155, rfl⟩
abbrev main_v25 : Ref sig .tc := ⟨.hbm, 156, rfl⟩
abbrev main_v26 : Ref sig .tc := ⟨.hbm, 157, rfl⟩
abbrev main_v27 : Ref sig .tc := ⟨.hbm, 158, rfl⟩
abbrev main_v28 : Ref sig .tc := ⟨.hbm, 159, rfl⟩
abbrev main_cst_2 : Ref sig .tc := ⟨.hbm, 160, rfl⟩
abbrev main_v29 : Ref sig .tc := ⟨.hbm, 161, rfl⟩
abbrev main_v30 : Ref sig .tc := ⟨.hbm, 162, rfl⟩
abbrev main_v31 : Ref sig .tc := ⟨.hbm, 163, rfl⟩
abbrev main_v32 : Ref sig .tc := ⟨.hbm, 164, rfl⟩
abbrev main_v33 : Ref sig .tc := ⟨.hbm, 165, rfl⟩
abbrev main_v34 : Ref sig .tc := ⟨.hbm, 166, rfl⟩
abbrev main_v35 : Ref sig .tc := ⟨.hbm, 167, rfl⟩
abbrev main_cst_3 : Ref sig .tc := ⟨.hbm, 168, rfl⟩
abbrev main_v36 : Ref sig .tc := ⟨.hbm, 169, rfl⟩
abbrev main_v37 : Ref sig .tc := ⟨.hbm, 170, rfl⟩
abbrev main_v38 : Ref sig .tc := ⟨.hbm, 171, rfl⟩
abbrev main_v39 : Ref sig .tc := ⟨.hbm, 172, rfl⟩
abbrev main_values : Ref sig .tc := ⟨.hbm, 173, rfl⟩
abbrev main_indices : Ref sig .tc := ⟨.hbm, 174, rfl⟩
abbrev main_c : Ref sig .tc := ⟨.hbm, 175, rfl⟩
abbrev main_v40 : Ref sig .tc := ⟨.hbm, 176, rfl⟩
abbrev main_v41 : Ref sig .tc := ⟨.hbm, 177, rfl⟩
abbrev main_c_4 : Ref sig .tc := ⟨.hbm, 178, rfl⟩
abbrev main_v42 : Ref sig .tc := ⟨.hbm, 179, rfl⟩
abbrev main_v43 : Ref sig .tc := ⟨.hbm, 180, rfl⟩
abbrev main_v44 : Ref sig .tc := ⟨.hbm, 181, rfl⟩
abbrev main_v45 : Ref sig .tc := ⟨.hbm, 182, rfl⟩
abbrev main_v46 : Ref sig .tc := ⟨.hbm, 183, rfl⟩
abbrev main_v47 : Ref sig .tc := ⟨.hbm, 184, rfl⟩
abbrev main_v48 : Ref sig .tc := ⟨.hbm, 185, rfl⟩
abbrev main_v49 : Ref sig .tc := ⟨.hbm, 186, rfl⟩
abbrev main_v50 : Ref sig .tc := ⟨.hbm, 187, rfl⟩
abbrev main_cst_5 : Ref sig .tc := ⟨.hbm, 188, rfl⟩
abbrev main_v51 : Ref sig .tc := ⟨.hbm, 189, rfl⟩
abbrev main_v52 : Ref sig .tc := ⟨.hbm, 190, rfl⟩
abbrev main_v53 : Ref sig .tc := ⟨.hbm, 191, rfl⟩
abbrev main_cst_6 : Ref sig .tc := ⟨.hbm, 192, rfl⟩
abbrev main_v54 : Ref sig .tc := ⟨.hbm, 193, rfl⟩
abbrev main_cst_7 : Ref sig .tc := ⟨.hbm, 194, rfl⟩
abbrev main_v55 : Ref sig .tc := ⟨.hbm, 195, rfl⟩
abbrev main_v56 : Ref sig .tc := ⟨.hbm, 196, rfl⟩
abbrev main_v57 : Ref sig .tc := ⟨.hbm, 197, rfl⟩
abbrev main_v58 : Ref sig .tc := ⟨.hbm, 198, rfl⟩
abbrev main_v59 : Ref sig .tc := ⟨.hbm, 199, rfl⟩
abbrev main_v60 : Ref sig .tc := ⟨.hbm, 200, rfl⟩
abbrev main_cst_8 : Ref sig .tc := ⟨.hbm, 201, rfl⟩
abbrev main_v61 : Ref sig .tc := ⟨.hbm, 202, rfl⟩
abbrev main_v62 : Ref sig .tc := ⟨.hbm, 203, rfl⟩
abbrev main_v63 : Ref sig .tc := ⟨.hbm, 204, rfl⟩
abbrev main_v64 : Ref sig .tc := ⟨.hbm, 205, rfl⟩
abbrev main_v65 : Ref sig .tc := ⟨.hbm, 206, rfl⟩
abbrev main_v66 : Ref sig .tc := ⟨.hbm, 207, rfl⟩
abbrev main_v67 : Ref sig .tc := ⟨.hbm, 208, rfl⟩

abbrev nD : Nat := 1
abbrev τ : Topo := Topo.v7x

variable {F : FTy → Type} [FloatOps F]
-- ==== Proof.Order.lean ====
/- The order a top-k of the negated distances walks a row in: ascending by distance, equal distances by position. -/
module

public import Idealize.ShloMosaic.PureOps.Ideal
public import Idealize.ShloMosaic.Lib.SortFacts
public import Idealize.ShloMosaic.Lib.Pointwise
public import Idealize.ShloMosaic.Lib.ValueIdx

@[expose] public section

noncomputable section

namespace Cert.Proof.Order

open Idealize.ShloMosaic

/-- The positions of a row, from its lowest entry up. -/
def order {n : ℕ} (d : Fin n → EReal) : Fin n → Fin n := sortedFrom fun k k' => decide (d k < d k')

theorem order_injective {n : ℕ} (d : Fin n → EReal) : Function.Injective (order d) := sortedFrom_injective _
theorem order_surjective {n : ℕ} (d : Fin n → EReal) : Function.Surjective (order d) := sortedFrom_surjective _

theorem order_mono {n : ℕ} (d : Fin n → EReal) (i j : Fin n) (h : i ≤ j) : d (order d i) ≤ d (order d j) := by
  rcases h.eq_or_lt with rfl | h
  · exact le_rfl
  · have := sortedFrom_noInversion (fun k k' => decide (d k < d k')) (fun k k' => decide (d k < d k'))
      (fun a b hab => decide_eq_false (of_decide_eq_true hab).asymm) (fun _ _ h => h)
      (fun a b c hab hbc => decide_eq_false (not_lt.2 ((not_lt.1 (of_decide_eq_false hbc)).trans
        (not_lt.1 (of_decide_eq_false hab))))) i j h
    exact not_lt.1 (of_decide_eq_false this)

/-- Strict over each of the first `K` neighbouring pairs, the order is strict from each of them on. -/
theorem order_strict {n : ℕ} (d : Fin n → EReal) (K : ℕ)
    (h : ∀ r (hr : r < K) (hn : r + 1 < n), d (order d ⟨r, Nat.lt_of_succ_lt hn⟩) < d (order d ⟨r + 1, hn⟩))
    (r : Fin n) (hr : r.val < K) (i : Fin n) (hi : r < i) : d (order d r) < d (order d i) := by
  have hi' : r.val + 1 ≤ i.val := hi
  have hn : r.val + 1 < n := lt_of_le_of_lt hi' i.isLt
  exact (h r.val hr hn).trans_le (order_mono d ⟨r.val + 1, hn⟩ i hi')

section TopK

variable {B S n K : ℕ}

theorem along_ix3 (b : Fin B) (s : Fin S) (j k : Fin n) :
    Shape.Idx.along (s := ⟨3, ![B, S, n]⟩) (ix3 b s j) 2 k = ix3 b s k := by
  funext a
  match a with
  | ⟨0, _⟩ => rfl
  | ⟨1, _⟩ => rfl
  | ⟨2, _⟩ => rfl

/-- The positions and values a top-k of a negated block finds along its last axis. -/
theorem topK_neg (hK : K ≤ n) (x : FVec Ideal ⟨3, ![B, S, n]⟩ .f32)
    (h : Shape.Slices ⟨3, ![B, S, n]⟩ (fun _ => 0) ⟨3, ![B, S, K]⟩) (b : Fin B) (s : Fin S) (r : Fin K) :
    (Host.topK ⟨3, ![B, S, K]⟩ 2 (FloatOps.cmpfTotal .gt) (Host.negf x) h).1 (ix3 b s r)
        = -x (ix3 b s (order (fun j => x (ix3 b s j)) (r.castLE hK)))
      ∧ (Host.topK ⟨3, ![B, S, K]⟩ 2 (FloatOps.cmpfTotal .gt) (Host.negf x) h).2 (ix3 b s r)
        = BitVec.ofNat 32 (order (fun j => x (ix3 b s j)) (r.castLE hK)).val := by
  have hσ : sortedFrom (fun k k' : Fin n => (FloatOps.cmpfTotal .gt
        (Host.negf x (Shape.Idx.along (s := ⟨3, ![B, S, n]⟩) (ix3 b s (r.castLE hK)) 2 k))
        (Host.negf x (Shape.Idx.along (s := ⟨3, ![B, S, n]⟩) (ix3 b s (r.castLE hK)) 2 k')) : BitVec 1) == 1#1)
      = order fun j => x (ix3 b s j) := by
    unfold order
    congr 1
    funext k k'
    rw [along_ix3, along_ix3]
    show (BitVec.ofBool (decide (-x (ix3 b s k') < -x (ix3 b s k))) == 1#1) = _
    simp only [EReal.neg_lt_neg_iff]
    by_cases hlt : x (ix3 b s k) < x (ix3 b s k') <;> simp [hlt]
  have hsrc : (fun a => ⟨0 + (ix3 b s r (a.cast h.1.symm)).val,
      Nat.lt_of_lt_of_le (Nat.add_lt_add_left (ix3 b s r _).isLt _) (h.2 a)⟩ : (⟨3, ![B, S, n]⟩ : Shape).Idx)
      = ix3 b s (r.castLE hK) := by
    funext a
    match a with
    | ⟨0, _⟩ => exact Fin.ext (Nat.zero_add _)
    | ⟨1, _⟩ => exact Fin.ext (Nat.zero_add _)
    | ⟨2, _⟩ => exact Fin.ext (Nat.zero_add _)
  have hsort : ∀ J : (⟨3, ![B, S, n]⟩ : Shape).Idx, J = ix3 b s (r.castLE hK) →
      Shape.Idx.along (s := ⟨3, ![B, S, n]⟩) J 2 (sortedFrom (fun k k' : Fin n => (FloatOps.cmpfTotal .gt
        (Host.negf x (Shape.Idx.along (s := ⟨3, ![B, S, n]⟩) J 2 k))
        (Host.negf x (Shape.Idx.along (s := ⟨3, ![B, S, n]⟩) J 2 k')) : BitVec 1) == 1#1) (J 2))
      = ix3 b s (order (fun j => x (ix3 b s j)) (r.castLE hK)) := by
    rintro J rfl
    exact (along_ix3 b s (r.castLE hK) _).trans (congrArg (ix3 b s) (congrFun hσ _))
  exact ⟨congrArg (Host.negf x) (hsort _ hsrc),
    congrArg (fun J : (⟨3, ![B, S, n]⟩ : Shape).Idx => BitVec.ofNat 32 (J 2).val) (hsort _ hsrc)⟩

end TopK

end Cert.Proof.Order
-- ==== Proof.Pre.lean ====
/- What the precondition says: every row number is one of its table's rows, the arrays the attention weights are made
   of are finite, and the distances of the seventeen nearest keys of every query row differ. -/
module

public import proofs.«01_k».proof.Pre_finite_distinct
public import proofs.«01_k».proof.Proof.Gen.ReferenceIdeal.Read
public import proofs.«01_k».proof.Proof.Order
public import Idealize.ShloMosaic.Lib.ReduceAll
public import Idealize.ShloMosaic.Lib.Affine
public import Idealize.ShloMosaic.Lib.WordArith
public import Idealize.ShloMosaic.Lib.Decide

@[expose] public section

noncomputable section

namespace Cert.Proof.Pre

open Idealize.ShloMosaic Cert.Pre_finite_distinct Cert.Proof.Order

instance facts : Cert.Pre_finite_distinct.Facts := by
  constructor <;> decide

instance : Subsingleton S_.Idx := ⟨fun a b => funext fun i => i.elim0⟩

/-- An extended real that is a real number. -/
def IsReal (x : EReal) : Prop := ∃ r : ℝ, x = r

theorem of_bit {b : Bool} (h : BitVec.ofBool b = 1#1) : b = true := by
  cases b
  · exact absurd h (by decide)
  · rfl

theorem both {s : Shape} (a b : IVec s 1) (j : s.Idx) (h : andi a b j = 1#1) : a j = 1#1 ∧ b j = 1#1 := by
  have h' : a j &&& b j = 1#1 := h
  generalize a j = p at h' ⊢
  generalize b j = q at h' ⊢
  revert p q
  decide

theorem inf_top : Ideal.ofBits .f32 0x7F800000#32 = ⊤ := by simp [Ideal.ofBits, Ideal.ieee]

/-- The printed `all(abs(x) < inf)`, read at an element. -/
theorem finite {s : Shape} {axes : List (Fin s.rank)} (x : FVec Ideal s .f32) (hb) (hr : s.ReducesTo axes S_) (hu : 0 < S_.numel)
    (c : IVec S_ 1) (j : S_.Idx)
    (h : Host.reduce IntOp.andi (cmpf .olt (Host.absf x) (broadcastInDim s ![] hb (constant S_ .f32 0x7F800000#32))) c hr hu j
      = 1#1) (i : s.Idx) : IsReal (x i) := by
  have hi := Host.reduce_andi_all _ _ _ _ _ h i
  have hi' : BitVec.ofBool (decide (max (x i) (-x i) < Ideal.ofBits .f32 0x7F800000#32)) = 1#1 := hi
  have hlt := of_decide_eq_true (of_bit hi')
  rw [inf_top] at hlt
  generalize x i = y at hlt ⊢
  induction y using EReal.rec with
  | bot => simp at hlt
  | top => simp at hlt
  | coe r => exact ⟨r, rfl⟩

/-- The printed `all((x >= 0) & (x < N))`, read at an element. -/
theorem inRange {s : Shape} {axes : List (Fin s.rank)} (x : IVec s 32) (N : ℕ) (hN : N < 2 ^ 31) (hb hb') (hr : s.ReducesTo axes S_)
    (hu : 0 < S_.numel) (c : IVec S_ 1) (j : S_.Idx)
    (h : Host.reduce IntOp.andi (andi (cmpi .sge x (broadcastInDim s ![] hb (constantI S_ 32 0#32)))
      (cmpi .slt x (broadcastInDim s ![] hb' (constantI S_ 32 (BitVec.ofNat 32 N))))) c hr hu j = 1#1) (i : s.Idx) :
    ∃ n : Fin N, x i = BitVec.ofNat 32 n.val := by
  obtain ⟨h0, h1⟩ := both _ _ _ (Host.reduce_andi_all _ _ _ _ _ h i)
  have h0' : (0#32).sle (x i) = true := of_bit h0
  have h1' : (x i).slt (BitVec.ofNat 32 N) = true := of_bit h1
  have hN' : (BitVec.ofNat 32 N).toInt = N := by
    rw [BitVec.toInt_eq_toNat_of_lt (by rw [BitVec.toNat_ofNat]; omega), BitVec.toNat_ofNat]
    omega
  rw [BitVec.sle_iff_toInt_le] at h0'
  rw [BitVec.slt_iff_toInt_lt, hN'] at h1'
  have hz : (0#32).toInt = 0 := rfl
  rw [hz] at h0'
  have hnat := (x i).toInt_eq_toNat_cond
  have hlt := (x i).isLt
  split at hnat
  · refine ⟨⟨(x i).toNat, by omega⟩, ?_⟩
    simp
  · omega

/-- All but the last of seventeen. -/
theorem slice0_apply (y : FVec Ideal S4x2048x17 .f32) (h0 : S4x2048x17.Slices ![0, 0, 0] S4x2048x16) (b : Fin 4) (s : Fin 2048)
    (r : Fin 16) : extractStridedSlice S4x2048x16 ![0, 0, 0] y h0 (ix3 b s r) = y (ix3 b s ⟨r.val, by omega⟩) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)

/-- All but the first of seventeen. -/
theorem slice1_apply (y : FVec Ideal S4x2048x17 .f32) (h1 : S4x2048x17.Slices ![0, 0, 1] S4x2048x16) (b : Fin 4) (s : Fin 2048)
    (r : Fin 16) : extractStridedSlice S4x2048x16 ![0, 0, 1] y h1 (ix3 b s r) = y (ix3 b s ⟨r.val + 1, by omega⟩) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.add_comm 1 r.val)

/-- The printed comparison of neighbouring distances, read at a pair. -/
theorem strict (x : FVec Ideal S4x2048x2048 .f32) (hs hs' h0 h1) (hr : S4x2048x16.ReducesTo [0, 1, 2] S_) (hu : 0 < S_.numel)
    (c : IVec S_ 1) (j : S_.Idx)
    (h : Host.reduce IntOp.andi (cmpf .ogt
      (extractStridedSlice S4x2048x16 ![0, 0, 0] (Host.topK S4x2048x17 2 (FloatOps.cmpfTotal .gt) (Host.negf x) hs).1 h0)
      (extractStridedSlice S4x2048x16 ![0, 0, 1] (Host.topK S4x2048x17 2 (FloatOps.cmpfTotal .gt) (Host.negf x) hs').1 h1))
      c hr hu j = 1#1) (b : Fin 4) (s : Fin 2048) (r : ℕ) (hr16 : r < 16) (hn : r + 1 < 2048) :
    x (ix3 b s (order (fun k => x (ix3 b s k)) ⟨r, Nat.lt_of_succ_lt hn⟩)) < x (ix3 b s (order (fun k => x (ix3 b s k)) ⟨r + 1, hn⟩)) := by
  have hi := Host.reduce_andi_all _ _ _ _ _ h (ix3 b s ⟨r, hr16⟩)
  have e0 := (topK_neg (K := 17) (by decide) x hs b s ⟨r, by omega⟩).1
  have e1 := (topK_neg (K := 17) (by decide) x hs' b s ⟨r + 1, by omega⟩).1
  have h' := (slice0_apply _ h0 b s ⟨r, hr16⟩).trans e0
  have h'' := (slice1_apply _ h1 b s ⟨r, hr16⟩).trans e1
  replace hi := (congrArg₂ (fun p q : EReal => Ideal.cmp .ogt p q) h' h'').symm.trans hi
  have hi' := of_decide_eq_true (of_bit hi)
  exact EReal.neg_lt_neg_iff.1 hi'

/-- The distances of the precondition, from a batch's rows and their squares. -/
def dists (y z : FVec Ideal S4x2048x128 .f32) (c : FVec Ideal S_ .f32) : FVec Ideal S4x2048x2048 .f32 :=
  subf (addf
      (broadcastInDim S4x2048x2048 ![0, 1, 2] Facts.bcast_S4x2048x1_S4x2048x2048_0_1_2
        (broadcastInDim S4x2048x1 ![0, 1] Facts.bcast_S4x2048_S4x2048x1_0_1
          (Host.reduceAdd z c Facts.reducesTo_S4x2048x128_S4x2048_d2 Facts.h_S_)))
      (broadcastInDim S4x2048x2048 ![0, 1, 2] Facts.bcast_S4x1x2048_S4x2048x2048_0_1_2
        (broadcastInDim S4x1x2048 ![0, 2] Facts.bcast_S4x2048_S4x1x2048_0_2
          (Host.reduceAdd z c Facts.reducesTo_S4x2048x128_S4x2048_d2 Facts.h_S_))))
    (mulf (broadcastInDim S4x2048x2048 ![] Facts.bcast_S_S4x2048x2048 (constant S_ .f32 0x40000000#32))
      (Host.dotGeneral dot_S4x2048x128_S4x2048x128_S4x2048x2048_2_2_1_1_0_0 none y y))

/-- The rows of a batch, from the extremes `a`, `b` of the positions and the positions `d` above the lower one. -/
def rowsFrom (x11 : FVec Ideal S3x128 .f32) (a b : FVec Ideal S1x4x3 .f32) (d : FVec Ideal S2048x4x3 .f32) : FVec Ideal S4x2048x128 .f32 :=
  transpose S4x2048x128 [1, 0, 2]
    (Host.dotGeneral dot_S2048x4x3_S3x128_S2048x4x128_2_0_01_1_n_n none
      (Host.divf d (broadcastInDim S2048x4x3 ![0, 1, 2] Facts.bcast_S1x4x3_S2048x4x3_0_1_2
        (addf (subf b a) (broadcastInDim S1x4x3 ![] Facts.bcast_S_S1x4x3 (constant S_ .f32 0x33D6BF95#32))))) x11)
    Facts.transposes_S2048x4x128_S4x2048x128_1_0_2

theorem part5 (m : IVec S_ 1) (x11 : FVec Ideal S3x128 .f32) (p q : FVec Ideal S1x4x3 .f32) (d : FVec Ideal S2048x4x3 .f32) (j : S_.Idx)
    (h : fn_part5 (F := Ideal) x11 m p q d j = 1#1) (y : FVec Ideal S4x2048x128 .f32) (hy : rowsFrom x11 p q d = y) :
    m j = 1#1 ∧ ∀ (b : Fin 4) (s : Fin 2048) (r : ℕ) (_ : r < 16) (hn : r + 1 < 2048),
      dists y (mulf y y) (constant S_ .f32 0x00000000#32) (ix3 b s (order (fun k => dists y (mulf y y) (constant S_ .f32 0x00000000#32) (ix3 b s k)) ⟨r, Nat.lt_of_succ_lt hn⟩))
        < dists y (mulf y y) (constant S_ .f32 0x00000000#32) (ix3 b s (order (fun k => dists y (mulf y y) (constant S_ .f32 0x00000000#32) (ix3 b s k)) ⟨r + 1, hn⟩)) := by
  dsimp only [fn_part5, fn_part6] at h
  unfold rowsFrom at hy
  rw [hy] at h
  obtain ⟨h, hd⟩ := both _ _ _ h
  exact ⟨h, fun b s r hr hn => strict (dists y (mulf y y) (constant S_ .f32 0x00000000#32)) _ _ _ _ _ _ _ j hd b s r hr hn⟩

theorem moved {y z : FVec Ideal S4x2048x2048 .f32} (e : y = z) (b : Fin 4) (s : Fin 2048) (r : ℕ) (hn : r + 1 < 2048)
    (h : y (ix3 b s (order (fun k => y (ix3 b s k)) ⟨r, Nat.lt_of_succ_lt hn⟩))
      < y (ix3 b s (order (fun k => y (ix3 b s k)) ⟨r + 1, hn⟩))) :
    z (ix3 b s (order (fun k => z (ix3 b s k)) ⟨r, Nat.lt_of_succ_lt hn⟩))
      < z (ix3 b s (order (fun k => z (ix3 b s k)) ⟨r + 1, hn⟩)) := e ▸ h

/-- The rows of the precondition. -/
def posRows (x5 : FVec Ideal S2048x4x3 .f32) (x11 : FVec Ideal S3x128 .f32) : FVec Ideal S4x2048x128 .f32 :=
  Cert.ReferenceIdeal.Read.val_main_v26 (F := Ideal) x5 x11

theorem dists_eq (x5 : FVec Ideal S2048x4x3 .f32) (x11 : FVec Ideal S3x128 .f32) :
    dists (posRows x5 x11) (mulf (posRows x5 x11) (posRows x5 x11)) (constant S_ .f32 0x00000000#32)
      = Cert.ReferenceIdeal.Read.val_main_v38 (F := Ideal) x5 x11 := by
  unfold dists posRows Cert.ReferenceIdeal.Read.val_main_v38 Cert.ReferenceIdeal.Read.val_main_v34
    Cert.ReferenceIdeal.Read.val_main_v32 Cert.ReferenceIdeal.Read.val_main_v33 Cert.ReferenceIdeal.Read.val_main_v31
    Cert.ReferenceIdeal.Read.val_main_v30 Cert.ReferenceIdeal.Read.val_main_v29 Cert.ReferenceIdeal.Read.val_main_v28
    Cert.ReferenceIdeal.Read.val_main_v37 Cert.ReferenceIdeal.Read.val_main_v36 Cert.ReferenceIdeal.Read.val_main_v35
  generalize Cert.ReferenceIdeal.Read.val_main_v26 (F := Ideal) x5 x11 = y
  rfl

section

variable (x0 x1 x2 x3 x4 : IVec S2048x4x4 32) (x5 : FVec Ideal S2048x4x3 .f32) (x6 : FVec Ideal S256x28 .f32)
  (x7 : FVec Ideal S16x2 .f32) (x8 : FVec Ideal S8x2 .f32) (x9 : FVec Ideal S32x16 .f32) (x10 : FVec Ideal S2250x16 .f32)
  (x11 : FVec Ideal S3x128 .f32) (x12 : FVec Ideal S384x256 .f32) (x13 : FVec Ideal S256 .f32)
  (x14 x15 x16 x17 : FVec Ideal S256x256 .f32)

/-- The precondition, said of the arguments' elements. -/
structure Holds : Prop where
  rows0 : ∀ i, ∃ n : Fin 256, x0 i = BitVec.ofNat 32 n.val
  rows1 : ∀ i, ∃ n : Fin 16, x1 i = BitVec.ofNat 32 n.val
  rows2 : ∀ i, ∃ n : Fin 8, x2 i = BitVec.ofNat 32 n.val
  rows3 : ∀ i, ∃ n : Fin 32, x3 i = BitVec.ofNat 32 n.val
  rows4 : ∀ i, ∃ n : Fin 2250, x4 i = BitVec.ofNat 32 n.val
  real6 : ∀ i, IsReal (x6 i)
  real7 : ∀ i, IsReal (x7 i)
  real8 : ∀ i, IsReal (x8 i)
  real9 : ∀ i, IsReal (x9 i)
  real10 : ∀ i, IsReal (x10 i)
  real12 : ∀ i, IsReal (x12 i)
  real13 : ∀ i, IsReal (x13 i)
  real14 : ∀ i, IsReal (x14 i)
  real15 : ∀ i, IsReal (x15 i)
  apart : ∀ (b : Fin 4) (s : Fin 2048) (r : Fin 2048), r.val < 16 → ∀ i, r < i →
    Cert.ReferenceIdeal.Read.val_main_v38 (F := Ideal) x5 x11
        (ix3 b s (order (fun j => Cert.ReferenceIdeal.Read.val_main_v38 (F := Ideal) x5 x11 (ix3 b s j)) r))
      < Cert.ReferenceIdeal.Read.val_main_v38 (F := Ideal) x5 x11
        (ix3 b s (order (fun j => Cert.ReferenceIdeal.Read.val_main_v38 (F := Ideal) x5 x11 (ix3 b s j)) i))

theorem holds (h : fn (F := Ideal) x0 x1 x2 x3 x4 x5 x6 x7 x8 x9 x10 x11 x12 x13 x14 x15 x16 x17 = fun _ => 1#1) :
    Holds x0 x1 x2 x3 x4 x5 x6 x7 x8 x9 x10 x11 x12 x13 x14 x15 := by
  have j : S_.Idx := fun i => i.elim0
  have h := congrFun h j
  dsimp only [fn, fn_part1, fn_part2, fn_part3, fn_part4] at h
  obtain ⟨h, hd⟩ := part5 _ _ _ _ _ j h (posRows x5 x11) rfl
  replace hd := fun b s r hr hn => moved (dists_eq x5 x11) b s r hn (hd b s r hr hn)
  obtain ⟨h, h15⟩ := both _ _ _ h
  obtain ⟨h, h14⟩ := both _ _ _ h
  obtain ⟨h, h13⟩ := both _ _ _ h
  obtain ⟨h, h12⟩ := both _ _ _ h
  obtain ⟨h, h10⟩ := both _ _ _ h
  obtain ⟨h, h9⟩ := both _ _ _ h
  obtain ⟨h, h8⟩ := both _ _ _ h
  obtain ⟨h, h7⟩ := both _ _ _ h
  obtain ⟨h, h6⟩ := both _ _ _ h
  obtain ⟨h, h4⟩ := both _ _ _ h
  obtain ⟨h, h3⟩ := both _ _ _ h
  obtain ⟨h, h2⟩ := both _ _ _ h
  obtain ⟨h0, h1⟩ := both _ _ _ h
  exact {
    rows0 := inRange x0 256 (by decide) _ _ _ _ _ _ h0
    rows1 := inRange x1 16 (by decide) _ _ _ _ _ _ h1
    rows2 := inRange x2 8 (by decide) _ _ _ _ _ _ h2
    rows3 := inRange x3 32 (by decide) _ _ _ _ _ _ h3
    rows4 := inRange x4 2250 (by decide) _ _ _ _ _ _ h4
    real6 := finite x6 _ _ _ _ _ h6
    real7 := finite x7 _ _ _ _ _ h7
    real8 := finite x8 _ _ _ _ _ h8
    real9 := finite x9 _ _ _ _ _ h9
    real10 := finite x10 _ _ _ _ _ h10
    real12 := finite x12 _ _ _ _ _ h12
    real13 := finite x13 _ _ _ _ _ h13
    real14 := finite x14 _ _ _ _ _ h14
    real15 := finite x15 _ _ _ _ _ h15
    apart := fun b s => order_strict (fun j => Cert.ReferenceIdeal.Read.val_main_v38 (F := Ideal) x5 x11 (ix3 b s j)) 16 (hd b s) }

end

end Cert.Proof.Pre
-- ==== Proof.Select.lean ====
/- The mathematics of the neighbour selection, on one row of extended reals: taking the lowest entry sixteen times
   over picks the sixteen first entries of the sorted row, and a softmax whose other entries are `⊥` is the softmax
   over the picked ones. Nothing here mentions a program. -/
module

public import Idealize.ShloMosaic.PureOps.Ideal

@[expose] public section

noncomputable section

namespace Cert.Proof.Select

open Idealize.ShloMosaic

variable {n : ℕ}

/-- The lowest entry of a row, as a fold from `⊤`. -/
def low (d : Fin n → EReal) : EReal := (Finset.univ : Finset (Fin n)).fold min ⊤ d

theorem low_eq_inf (d : Fin n → EReal) : low d = Finset.univ.inf d := rfl

/-- One round: the entries equal to the lowest one become `⊤`. -/
def strike (d : Fin n → EReal) : Fin n → EReal := fun j => if d j = low d then ⊤ else d j

/-- The row after `r` rounds. -/
def rounds (d : Fin n → EReal) : ℕ → Fin n → EReal
  | 0 => d
  | r + 1 => strike (rounds d r)

/-- Entry `j` was the lowest in one of the first `r` rounds. -/
def Taken (d : Fin n → EReal) (r : ℕ) (j : Fin n) : Prop := ∃ i < r, rounds d i j = low (rounds d i)

theorem taken_zero (d : Fin n → EReal) (j : Fin n) : ¬ Taken d 0 j := fun ⟨_, h, _⟩ => Nat.not_lt_zero _ h

theorem taken_succ (d : Fin n → EReal) (r : ℕ) (j : Fin n) :
    Taken d (r + 1) j ↔ Taken d r j ∨ rounds d r j = low (rounds d r) := by
  constructor
  · rintro ⟨i, hi, h⟩
    rcases Nat.lt_succ_iff_lt_or_eq.1 hi with h' | rfl
    · exact .inl ⟨i, h', h⟩
    · exact .inr h
  · rintro (⟨i, hi, h⟩ | h)
    · exact ⟨i, Nat.lt_succ_of_lt hi, h⟩
    · exact ⟨r, Nat.lt_succ_self r, h⟩

section Sorted

variable {σ : Fin n → Fin n} (hinj : Function.Injective σ) (hsur : Function.Surjective σ)
  {d : Fin n → EReal} {K : ℕ} (hK : K < n)
  (hlt : ∀ r : Fin n, r.val < K → ∀ i : Fin n, r < i → d (σ r) < d (σ i))

include hinj hsur hK hlt

/-- Along the sorting order `σ`, whose first `K` steps are strict: `r` rounds have struck the first `r` entries, and
    nothing else. -/
theorem rounds_sorted (r : ℕ) (hr : r ≤ K) (i : Fin n) : rounds d r (σ i) = if i.val < r then ⊤ else d (σ i) := by
  induction r generalizing i with
  | zero => simp [rounds]
  | succ r ih =>
    have hrK : r < K := hr
    have ih' := ih hrK.le
    obtain ⟨m, hm⟩ : ∃ m : Fin n, m.val = r := ⟨⟨r, hrK.trans hK⟩, rfl⟩
    have hat : rounds d r (σ m) = d (σ m) := by rw [ih', if_neg (by omega)]
    have hfin : d (σ m) < ⊤ := lt_of_lt_of_le (hlt m (hm ▸ hrK) ⟨r + 1, by omega⟩ (Fin.lt_def.2 (by simp [hm]))) le_top
    have habove : ∀ i : Fin n, i ≠ m → d (σ m) < rounds d r (σ i) := by
      intro i hi
      rw [ih']
      split
      · exact hfin
      · exact hlt m (hm ▸ hrK) i (Fin.lt_def.2 (by have := Fin.val_ne_of_ne hi; omega))
    have hlow : low (rounds d r) = d (σ m) := by
      rw [low_eq_inf]
      apply le_antisymm
      · exact (Finset.inf_le (Finset.mem_univ (σ m))).trans hat.le
      · refine Finset.le_inf fun j _ => ?_
        obtain ⟨i, rfl⟩ := hsur j
        by_cases hi : i = m
        · rw [hi, hat]
        · exact (habove i hi).le
    show (if rounds d r (σ i) = low (rounds d r) then ⊤ else rounds d r (σ i)) = _
    rw [hlow]
    by_cases hi : i = m
    · rw [if_pos (by rw [hi, hat]), if_pos (by rw [hi]; omega)]
    · rw [if_neg (habove i hi).ne', ih']
      have := Fin.val_ne_of_ne hi
      exact if_congr (by omega) rfl rfl

/-- In round `r` the lowest entry is the `r`-th of the sorted row, and no other. -/
theorem lowest_sorted (r : ℕ) (hr : r < K) (i : Fin n) :
    rounds d r (σ i) = low (rounds d r) ↔ i.val = r := by
  have h1 := rounds_sorted hinj hsur hK hlt (r + 1) hr i
  have h0 := rounds_sorted hinj hsur hK hlt r hr.le
  have hstep : rounds d (r + 1) (σ i) = if rounds d r (σ i) = low (rounds d r) then ⊤ else rounds d r (σ i) := rfl
  obtain ⟨m, hm⟩ : ∃ m : Fin n, m.val = r := ⟨⟨r, hr.trans hK⟩, rfl⟩
  have hfin : d (σ m) < ⊤ := lt_of_lt_of_le (hlt m (hm ▸ hr) ⟨r + 1, by omega⟩ (Fin.lt_def.2 (by simp [hm]))) le_top
  have hle : low (rounds d r) ≤ d (σ m) := by
    rw [low_eq_inf]
    exact (Finset.inf_le (Finset.mem_univ (σ m))).trans (by rw [h0, if_neg (by omega)])
  constructor
  · intro h
    by_contra hne
    rcases Nat.lt_or_gt_of_ne hne with hi | hi
    · rw [h0, if_pos hi] at h
      exact absurd (h ▸ hle) (not_le.2 hfin)
    · rw [hstep, if_pos h, if_neg (by omega)] at h1
      rw [h0, if_neg (by omega)] at h
      have := hlt m (hm ▸ hr) i (Fin.lt_def.2 (by omega))
      exact absurd (h ▸ hle) (not_le.2 this)
  · intro hi
    by_contra hne
    rw [hstep, if_neg hne, if_pos (by omega), h0, if_neg (by omega)] at h1
    have : i = m := Fin.ext (by omega)
    exact hfin.ne (this ▸ h1)

/-- The entries taken in `K` rounds are the `K` first of the sorted row. -/
theorem taken_sorted (i : Fin n) : Taken d K (σ i) ↔ i.val < K := by
  constructor
  · rintro ⟨r, hr, h⟩
    rw [(lowest_sorted hinj hsur hK hlt r hr i).1 h]; exact hr
  · intro hi
    exact ⟨i.val, hi, (lowest_sorted hinj hsur hK hlt i.val hi i).2 rfl⟩

end Sorted

/-! ## The masked softmax -/

section Softmax

variable {m : ℕ}

/-- The highest entry of a row, as a fold from `⊥`. -/
def high (d : Fin n → EReal) : EReal := (Finset.univ : Finset (Fin n)).fold max ⊥ d

theorem high_eq_sup (d : Fin n → EReal) : high d = Finset.univ.sup d := rfl

/-- The softmax-weighted sum of `v` under the scores `L`. -/
def attend (L v : Fin n → EReal) : EReal :=
  ∑ j, Ideal.div (Ideal.exp (L j - high L)) (∑ k, Ideal.exp (L k - high L)) * v j

/-- A sum over a row that vanishes outside the image of an injection is the sum along the injection. -/
theorem sum_along {τ : Fin m → Fin n} (hτ : Function.Injective τ) (g : Fin n → EReal)
    (h0 : ∀ j, (∀ r, τ r ≠ j) → g j = 0) : ∑ j, g j = ∑ r, g (τ r) :=
  (Finset.sum_of_injOn τ hτ.injOn (fun _ _ => Finset.mem_coe.2 (Finset.mem_univ _))
    (fun j _ hj => h0 j fun r hr => hj ⟨r, Finset.mem_coe.2 (Finset.mem_univ r), hr⟩) (fun _ _ => rfl)).symm

theorem exp_nonneg (x : EReal) : 0 ≤ Ideal.exp x := by
  induction x with
  | bot => exact le_rfl
  | top => exact le_top
  | coe r => exact EReal.coe_nonneg.2 (Real.exp_pos r).le

/-- Scores that are `⊥` outside the image of an injection, and real on it, attend as the scores along the injection
    do: the other weights are `exp ⊥ = 0` over a positive denominator. -/
theorem attend_along {τ : Fin m → Fin n} (hτ : Function.Injective τ) (hm : 0 < m) (L v : Fin n → EReal)
    (hbot : ∀ j, (∀ r, τ r ≠ j) → L j = ⊥) (hreal : ∀ r, ∃ x : ℝ, L (τ r) = x) :
    attend L v = attend (fun r => L (τ r)) (fun r => v (τ r)) := by
  have hhigh : high L = high fun r => L (τ r) := by
    rw [high_eq_sup, high_eq_sup]
    apply le_antisymm
    · refine Finset.sup_le fun j _ => ?_
      by_cases hj : ∀ r, τ r ≠ j
      · rw [hbot j hj]; exact bot_le
      · push Not at hj
        obtain ⟨r, rfl⟩ := hj
        exact Finset.le_sup (f := fun r => L (τ r)) (Finset.mem_univ r)
    · exact Finset.sup_le fun r _ => Finset.le_sup (f := L) (Finset.mem_univ (τ r))
  obtain ⟨q, -, hq⟩ := Finset.exists_mem_eq_sup' (s := (Finset.univ : Finset (Fin m))) ⟨⟨0, hm⟩, Finset.mem_univ _⟩
    fun r => L (τ r)
  have hq' : high (fun r => L (τ r)) = L (τ q) := by
    rw [high_eq_sup, ← Finset.sup'_eq_sup ⟨⟨0, hm⟩, Finset.mem_univ _⟩]; exact hq
  obtain ⟨M, hM⟩ := hreal q
  have hout : ∀ j, (∀ r, τ r ≠ j) → Ideal.exp (L j - high L) = 0 := by
    intro j hj
    rw [hbot j hj, EReal.bot_sub]; rfl
  have hden : ∑ k, Ideal.exp (L k - high L) = ∑ r, Ideal.exp (L (τ r) - high fun r => L (τ r)) := by
    rw [sum_along hτ _ hout, hhigh]
  have hpos : ∑ r, Ideal.exp (L (τ r) - high fun r => L (τ r)) ≠ 0 := by
    refine (lt_of_lt_of_le ?_ (Finset.single_le_sum (fun r _ => exp_nonneg _) (Finset.mem_univ q))).ne'
    rw [hq', hM, ← EReal.coe_sub, sub_self, Ideal.exp_coe, Real.exp_zero]
    exact zero_lt_one
  unfold attend
  rw [hden, sum_along hτ _ fun j hj => by rw [hout j hj, Ideal.div, if_neg hpos, zero_mul, zero_mul], hhigh]

end Softmax

end Cert.Proof.Select
-- ==== Proof.Rounds.lean ====
/- The attention kernel's sixteen selection rounds. The printed rounds are sixteen copies of two operations on the
   block of distances — mark the entries equal to their row's minimum, and overwrite the marked ones with `+∞` —;
   here the copies are named once, and read on a row as the rounds of `Select`. -/
module

public import proofs.«01_k».proof.Proof.Gen.KernelIdeal.Skeleton
public import proofs.«01_k».proof.Proof.Select
public import Idealize.ShloMosaic.Lib.Pointwise
public import Idealize.ShloMosaic.Lib.ValueIdx

@[expose] public section

noncomputable section

namespace Cert.Proof.Rounds

open Idealize.ShloMosaic Cert.KernelIdeal Cert.KernelIdeal.Gen Cert.Proof.Select

/-- The block's entries that equal the minimum of their row. -/
def hit (x : FVec Ideal S256x2048 .f32) : IVec S256x2048 1 :=
  cmpf .oeq x (broadcastTo S256x2048 (shapeCast S256x1
    (multiReduction .minimumf [1] S256 x 0x7F800000#32 reduces_S256x2048_S256 (.inl rfl) rfl)
    shapeCasts_S256_S256x1) broadcasts_S256x1_S256x2048)

/-- The block with those entries overwritten by `+∞`. -/
def cut (x : FVec Ideal S256x2048 .f32) : FVec Ideal S256x2048 .f32 :=
  select (hit x) (broadcast S256x2048 (Scalar.ofBits .f32 0x7F800000#32)) x

/-- The block after `r` rounds. -/
def after (d : FVec Ideal S256x2048 .f32) : ℕ → FVec Ideal S256x2048 .f32
  | 0 => d
  | r + 1 => cut (after d r)

/-- The entries marked in `r` rounds. -/
def mask (d : FVec Ideal S256x2048 .f32) : ℕ → IVec S256x2048 1
  | 0 => broadcast S256x2048 0#1
  | r + 1 => ori (mask d r) (hit (after d r))

/-! ## The printed rounds are these -/

section Printed

variable (p : Vec Ideal S1x256x128 .f32) (q : Vec Ideal S1x2048x128 .f32)

theorem round0 : k2_pay3 p q = hit (k2_pay2 p q) ∧ k2_pay4 p q = cut (k2_pay2 p q) := ⟨rfl, rfl⟩
theorem round1 : k2_pay5 p q = hit (k2_pay4 p q) ∧ k2_pay6 p q = cut (k2_pay4 p q) := ⟨rfl, rfl⟩
theorem round2 : k2_pay7 p q = hit (k2_pay6 p q) ∧ k2_pay9 p q = cut (k2_pay6 p q) := ⟨rfl, rfl⟩

/-- The first three rounds. -/
theorem printed_first : k2_pay9 p q = after (k2_pay2 p q) 3 ∧ k2_pay8 p q = mask (k2_pay2 p q) 3 := by
  obtain ⟨h0, c0⟩ := round0 p q
  obtain ⟨h1, c1⟩ := round1 p q
  obtain ⟨h2, c2⟩ := round2 p q
  constructor
  · rw [c2, c1, c0]; rfl
  · unfold k2_pay8
    rw [h2, h1, h0, c1, c0]; rfl

variable (x : FVec Ideal S256x2048 .f32)

/-- A row minimum of the block, as the printed rounds carry it from one to the next. -/
abbrev rowMin : FVec Ideal S256 .f32 :=
  multiReduction .minimumf [1] S256 x 0x7F800000#32 reduces_S256x2048_S256 (.inl rfl) rfl

theorem round3 : k2_pay11 x (rowMin x) = hit x ∧ k2_pay12 x (rowMin x) = cut x := ⟨rfl, rfl⟩
theorem round4 (w : FVec Ideal S256 .f32) :
    k2_pay13 x w = hit (k2_pay12 x w) ∧ k2_pay14 x w = cut (k2_pay12 x w) := ⟨rfl, rfl⟩
theorem round5 (w : FVec Ideal S256 .f32) :
    k2_pay15 x w = hit (k2_pay14 x w) ∧ k2_pay16 x w = cut (k2_pay14 x w) := ⟨rfl, rfl⟩
theorem round6 (w : FVec Ideal S256 .f32) :
    k2_pay17 x w = hit (k2_pay16 x w) ∧ k2_pay18 x w = cut (k2_pay16 x w) := ⟨rfl, rfl⟩
theorem round7 (w : FVec Ideal S256 .f32) :
    k2_pay19 x w = hit (k2_pay18 x w) ∧ k2_pay20 x w = cut (k2_pay18 x w) := ⟨rfl, rfl⟩
theorem round8 (w : FVec Ideal S256 .f32) :
    k2_pay21 x w = hit (k2_pay20 x w) ∧ k2_pay22 x w = cut (k2_pay20 x w) := ⟨rfl, rfl⟩
theorem round9 (w : FVec Ideal S256 .f32) : k2_pay23 x w = hit (k2_pay22 x w) := rfl

/-- The next seven, from any block and any marks so far. -/
theorem printed_middle (s : IVec S256x2048 1) :
    k2_pay22 x (rowMin x) = after x 6 ∧ k2_pay23 x (rowMin x) = hit (after x 6)
      ∧ k2_pay24 s x (rowMin x) = ori (ori (ori (ori (ori (ori (ori s (hit (after x 0))) (hit (after x 1)))
          (hit (after x 2))) (hit (after x 3))) (hit (after x 4))) (hit (after x 5))) (hit (after x 6)) := by
  obtain ⟨h3, c3⟩ := round3 x
  obtain ⟨h4, c4⟩ := round4 x (rowMin x)
  obtain ⟨h5, c5⟩ := round5 x (rowMin x)
  obtain ⟨h6, c6⟩ := round6 x (rowMin x)
  obtain ⟨h7, c7⟩ := round7 x (rowMin x)
  obtain ⟨h8, c8⟩ := round8 x (rowMin x)
  have a1 : k2_pay12 x (rowMin x) = after x 1 := c3
  have a2 : k2_pay14 x (rowMin x) = after x 2 := by rw [c4, a1]; rfl
  have a3 : k2_pay16 x (rowMin x) = after x 3 := by rw [c5, a2]; rfl
  have a4 : k2_pay18 x (rowMin x) = after x 4 := by rw [c6, a3]; rfl
  have a5 : k2_pay20 x (rowMin x) = after x 5 := by rw [c7, a4]; rfl
  have a6 : k2_pay22 x (rowMin x) = after x 6 := by rw [c8, a5]; rfl
  refine ⟨a6, by rw [round9, a6], ?_⟩
  unfold k2_pay24
  rw [h3, h4, h5, h6, h7, h8, round9, a1, a2, a3, a4, a5, a6]; rfl

/-- The last six. -/
theorem printed_last (s : IVec S256x2048 1) :
    k2_pay26 x (hit x) s k2_pay25 = ori (ori (ori (ori (ori (ori s (hit (after x 1))) (hit (after x 2)))
      (hit (after x 3))) (hit (after x 4))) (hit (after x 5))) (hit (after x 6)) := rfl

theorem after_add (d : FVec Ideal S256x2048 .f32) (a b : ℕ) : after (after d a) b = after d (a + b) := by
  induction b with
  | zero => rfl
  | succ b ih => exact congrArg cut ih

/-- The printed kernel's marks after all its rounds. -/
theorem printed_marks :
    k2_pay26 (k2_pay22 (k2_pay9 p q) (k2_pay10 p q)) (k2_pay23 (k2_pay9 p q) (k2_pay10 p q))
      (k2_pay24 (k2_pay8 p q) (k2_pay9 p q) (k2_pay10 p q)) k2_pay25 = mask (k2_pay2 p q) 16 := by
  obtain ⟨f1, f2⟩ := printed_first p q
  have hm : k2_pay10 p q = rowMin (k2_pay9 p q) := rfl
  rw [hm]
  obtain ⟨m1, m2, m3⟩ := printed_middle (k2_pay9 p q) (k2_pay8 p q)
  rw [m1, m2, m3, printed_last, f1, f2]
  simp only [after_add]
  rfl

end Printed

/-! ## Read on a row -/

theorem inf_bits : (FloatOps.ofBits .f32 0x7F800000#32 : Ideal .f32) = (⊤ : EReal) := by
  show Ideal.ofBits .f32 0x7F800000#32 = ⊤
  simp [Ideal.ofBits, Ideal.ieee]

/-- A row of the block. -/
abbrev row (x : FVec Ideal S256x2048 .f32) (r : Fin 256) : Fin 2048 → EReal := fun j => x (ix2 r j)

theorem hit_apply (x : FVec Ideal S256x2048 .f32) (r : Fin 256) (j : Fin 2048) :
    hit x (ix2 r j) = BitVec.ofBool (decide (x (ix2 r j) = low (row x r))) := by
  unfold hit
  simp only [pointwise, inf_bits]
  rfl

theorem cut_row (x : FVec Ideal S256x2048 .f32) (r : Fin 256) : row (cut x) r = strike (row x r) := by
  funext j
  show Scalar.select (hit x (ix2 r j)) _ _ = if x (ix2 r j) = low (row x r) then ⊤ else x (ix2 r j)
  rw [hit_apply]
  by_cases h : x (ix2 r j) = low (row x r)
  · rw [if_pos h, decide_eq_true h]; exact inf_bits
  · rw [if_neg h, decide_eq_false h]; rfl

theorem after_row (d : FVec Ideal S256x2048 .f32) (r : Fin 256) (i : ℕ) : row (after d i) r = rounds (row d r) i := by
  induction i with
  | zero => rfl
  | succ i ih => exact (cut_row _ r).trans (congrArg strike ih)

/-- An entry is marked exactly when it was its row's lowest in one of the rounds. -/
theorem mask_apply (d : FVec Ideal S256x2048 .f32) (r : Fin 256) (j : Fin 2048) (i : ℕ) :
    mask d i (ix2 r j) = 1#1 ↔ Taken (row d r) i j := by
  induction i with
  | zero => exact ⟨fun h => absurd (show (0#1 : BitVec 1) = 1#1 from h) (by decide), fun h => absurd h (taken_zero _ _)⟩
  | succ i ih =>
    rw [taken_succ, ← ih, ← after_row]
    show mask d i (ix2 r j) ||| hit (after d i) (ix2 r j) = 1#1 ↔ _ ∨ after d i (ix2 r j) = _
    rw [hit_apply]
    generalize mask d i (ix2 r j) = b
    by_cases h : after d i (ix2 r j) = low (row (after d i) r)
    · rw [decide_eq_true h]
      simp only [h, or_true, iff_true]
      revert b; decide
    · rw [decide_eq_false h]
      simp only [h, or_false]
      revert b; decide

end Cert.Proof.Rounds
-- ==== Proof.AttnBlock.lean ====
/- The attention kernel's stored block, read at an entry: the distances of a query row to every key, and the masked
   softmax attention of the row, projected and added to the row's own embedding. -/
module

public import proofs.«01_k».proof.Proof.Rounds

@[expose] public section

noncomputable section

namespace Cert.Proof.AttnBlock

open Idealize.ShloMosaic Cert.KernelIdeal Cert.KernelIdeal.Gen Cert.Proof.Select

/-- The squared distance of two rows as both programs compute it: `|a|² + |b|² − 2 a·b`. -/
def sqDist {n : ℕ} (a b : Fin n → EReal) : EReal :=
  ((∑ k, a k * a k) + ∑ k, b k * b k) - Ideal.ofBits .f32 0x40000000#32 * ∑ k, a k * b k

theorem pay2_apply (p : Vec Ideal S1x256x128 .f32) (q : Vec Ideal S1x2048x128 .f32) (r : Fin 256) (j : Fin 2048) :
    k2_pay2 p q (ix2 r j) = sqDist (fun k => p (ix3 0 r k)) fun k => q (ix3 0 j k) := by
  unfold k2_pay2 sqDist
  simp only [pointwise]
  simp

theorem neg_inf_bits : Ideal.ofBits .f32 0xFF800000#32 = ⊥ := by
  simp [Ideal.ofBits, Ideal.ieee]

/-- A row's score against key `j` when it is marked, `⊥` when not. -/
def score (b : BitVec 1) (a k : Fin 256 → EReal) : EReal :=
  if b = 1#1 then (∑ t, a t * k t) * Ideal.ofBits .f32 0x3D800000#32 else ⊥

theorem pay1_apply (m : IVec S256x2048 1) (q : FVec Ideal S256x256 .f32) (k v : Vec Ideal S1x2048x256 .f32)
    (wo : Vec Ideal S256x256 .f32) (e : Vec Ideal S1x256x256 .f32) (r f : Fin 256) :
    k2_pay1 m q k v wo e (ix3 0 r f)
      = (∑ c, attend (fun j => score (m (ix2 r j)) (fun t => q (ix2 r t)) fun t => k (ix3 0 j t))
          (fun j => v (ix3 0 j c)) * wo (ix2 c f)) + e (ix3 0 r f) := by
  unfold k2_pay1
  simp only [pointwise]
  simp only [zero_add, neg_inf_bits]
  rfl

end Cert.Proof.AttnBlock
-- ==== Proof.Gathers.lean ====
/- The two gathers the reference prints, read at an entry: rows of a table at a block of row numbers, and rows of each
   batch's matrix at that batch's block of row numbers. -/
module

public import Idealize.ShloMosaic.Lib.Pointwise
public import Idealize.ShloMosaic.Lib.ValueIdx

@[expose] public section

noncomputable section

namespace Cert.Proof.Gathers

open Idealize.ShloMosaic

variable {α : Type} {A B C D N K w : ℕ}

/-- Rows of a table `[N, C]` at row numbers `[A, B, D, 1]`. -/
abbrev tableDims (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

theorem table_apply (wf) (x : (⟨2, ![N, C]⟩ : Shape).Idx → α) (idx : IVec ⟨4, ![A, B, D, 1]⟩ w)
    (a : Fin A) (b : Fin B) (d : Fin D) (c : Fin C) (n : Fin N) (hn : (idx (ix4 a b d 0)).toInt = n.val) :
    Host.gather (tableDims wf) x idx (ix4 a b d c) = x (ix2 n c) := by
  have hrow : (tableDims wf).siIdx (ix4 a b d c) ⟨0, Nat.one_pos⟩ = ix4 a b d 0 := by
    funext k
    match k with
    | ⟨0, _⟩ => rfl
    | ⟨1, _⟩ => rfl
    | ⟨2, _⟩ => rfl
    | ⟨3, _⟩ => rfl
  unfold Host.gather
  congr 1
  funext k
  refine Fin.ext ?_
  match k with
  | ⟨0, _⟩ =>
    show min (idx ((tableDims wf).siIdx (ix4 a b d c) ⟨0, _⟩)).toInt.toNat (N - 1) + 0 + 0 = n.val
    rw [hrow, hn]
    have := n.isLt
    simp only [Int.toNat_natCast]
    omega
  | ⟨1, _⟩ =>
    show 0 + 0 + c.val = c.val
    omega

/-- Rows of each batch's matrix, `[B, N, C]`, at that batch's row numbers, `[B, D, K, 1]`. -/
abbrev batchDims (wf : GatherDims.WF ⟨3, ![B, N, C]⟩ ⟨4, ![B, D, K, 1]⟩ ⟨4, ![B, D, K, C]⟩ [3] [1] [0] [1] [0] 3 ![1, 1, C]) :
    GatherDims ⟨3, ![B, N, C]⟩ ⟨4, ![B, D, K, 1]⟩ ⟨4, ![B, D, K, C]⟩ where
  offsetDims := [3]
  collapsedSliceDims := [1]
  operandBatchingDims := [0]
  startIndicesBatchingDims := [0]
  startIndexMap := [1]
  indexVectorDim := 3
  sliceSizes := ![1, 1, C]
  wf := wf

theorem batch_apply (wf) (x : (⟨3, ![B, N, C]⟩ : Shape).Idx → α) (idx : IVec ⟨4, ![B, D, K, 1]⟩ w)
    (b : Fin B) (d : Fin D) (k : Fin K) (c : Fin C) (n : Fin N) (hn : (idx (ix4 b d k 0)).toInt = n.val) :
    Host.gather (batchDims wf) x idx (ix4 b d k c) = x (ix3 b n c) := by
  have hrow : (batchDims wf).siIdx (ix4 b d k c) ⟨0, Nat.one_pos⟩ = ix4 b d k 0 := by
    funext i
    match i with
    | ⟨0, _⟩ => rfl
    | ⟨1, _⟩ => rfl
    | ⟨2, _⟩ => rfl
    | ⟨3, _⟩ => rfl
  unfold Host.gather
  congr 1
  funext i
  refine Fin.ext ?_
  match i with
  | ⟨0, _⟩ =>
    show 0 + b.val + 0 = b.val
    omega
  | ⟨1, _⟩ =>
    show min (idx ((batchDims wf).siIdx (ix4 b d k c) ⟨0, _⟩)).toInt.toNat (N - 1) + 0 + 0 = n.val
    rw [hrow, hn]
    have := n.isLt
    simp only [Int.toNat_natCast]
    omega
  | ⟨2, _⟩ =>
    show 0 + 0 + c.val = c.val
    omega

end Cert.Proof.Gathers
-- ==== Proof.Take.lean ====
/- The reference's embedding look-ups: a row number in range reads its table's row, and no element is masked. -/
module

public import proofs.«01_k».proof.Proof.Gen.ReferenceIdeal.Read
public import proofs.«01_k».proof.Proof.Gathers
public import Idealize.ShloMosaic.Lib.ReduceAll

@[expose] public section

noncomputable section

namespace Cert.Proof.Take

open Idealize.ShloMosaic Cert.ReferenceIdeal Cert.ReferenceIdeal.Read Cert.Proof.Gathers

theorem ofNat_toInt {N : ℕ} (hN : N < 2 ^ 31) (n : ℕ) (hn : n ≤ N) : (BitVec.ofNat 32 n).toInt = n := by
  rw [BitVec.toInt_eq_toNat_of_lt (by rw [BitVec.toNat_ofNat]; omega), BitVec.toNat_ofNat]
  omega

/-- The three comparisons of a row number in range. -/
theorem row_bits {N : ℕ} (hN : N < 2 ^ 31) (w : BitVec 32) (h : ∃ n : Fin N, w = BitVec.ofNat 32 n.val) :
    IntOp.cmpi .slt w 0#32 = 0#1 ∧ IntOp.cmpi .sge w 0#32 = 1#1 ∧ IntOp.cmpi .sle w (BitVec.ofNat 32 (N - 1)) = 1#1 := by
  obtain ⟨n, rfl⟩ := h
  have hw := ofNat_toInt hN n.val n.isLt.le
  have hm := ofNat_toInt hN (N - 1) (by omega)
  have hz : (0#32).toInt = 0 := rfl
  have := n.isLt
  refine ⟨?_, ?_, ?_⟩
  · show BitVec.ofBool ((BitVec.ofNat 32 n.val).slt 0#32) = 0#1
    rw [BitVec.slt, hw, hz, decide_eq_false (by omega)]
    rfl
  · show BitVec.ofBool ((0#32).sle (BitVec.ofNat 32 n.val)) = 1#1
    rw [BitVec.sle, hw, hz, decide_eq_true (by omega)]
    rfl
  · show BitVec.ofBool ((BitVec.ofNat 32 n.val).sle (BitVec.ofNat 32 (N - 1))) = 1#1
    rw [BitVec.sle, hw, hm, decide_eq_true (by omega)]
    rfl

/-- Row numbers, a negative one counted from the table's end. -/
def wrapped (x w : IVec S2048x4x4 32) (h0 : S_.BroadcastsInDim S2048x4x4 ![]) : IVec S2048x4x4 32 :=
  select (cmpi .slt x (broadcastInDim S2048x4x4 ![] h0 (constantI S_ 32 0#32))) (addi x w) x

theorem wrapped_eq {N : ℕ} (hN : N < 2 ^ 31) (x w : IVec S2048x4x4 32) (h0)
    (hx : ∀ i, ∃ n : Fin N, x i = BitVec.ofNat 32 n.val) : wrapped x w h0 = x := by
  funext i
  show Scalar.select (IntOp.cmpi .slt (x i) 0#32) _ (x i) = x i
  rw [(row_bits hN _ (hx i)).1]
  exact ValueIdx.select_zero _ _

/-- A look-up: the gathered rows, masked where the row number is out of range. -/
theorem take {N C : ℕ} (hN : N < 2 ^ 31) (wf) (x w : IVec S2048x4x4 32) (y : FVec Ideal ⟨2, ![N, C]⟩ .f32)
    (fill : FVec Ideal ⟨4, ![2048, 4, 4, C]⟩ .f32) (h0)
    (h1 : S2048x4x4.BroadcastsInDim S2048x4x4x1 ![0, 1, 2]) (h2 : S_.BroadcastsInDim S2048x4x4x1 ![])
    (h3 : S1.BroadcastsInDim S1x1x1x1 ![3]) (h4 : S1x1x1x1.BroadcastsInDim S2048x4x4x1 ![0, 1, 2, 3])
    (h5 : S2048x4x4.BroadcastsInDim ⟨4, ![2048, 4, 4, C]⟩ ![0, 1, 2]) (h6 : S2048x4x4x1.ReducesTo [3] S2048x4x4)
    (h7 : 0 < S_.numel) (hx : ∀ i, ∃ n : Fin N, x i = BitVec.ofNat 32 n.val)
    (s : Fin 2048) (b k : Fin 4) (c : Fin C) (n : Fin N) (hn : x (ix3 s b k) = BitVec.ofNat 32 n.val) :
    select (broadcastInDim ⟨4, ![2048, 4, 4, C]⟩ ![0, 1, 2] h5
        (Host.reduce IntOp.andi
          (andi (cmpi .sge (broadcastInDim S2048x4x4x1 ![0, 1, 2] h1 (wrapped x w h0))
              (broadcastInDim S2048x4x4x1 ![] h2 (constantI S_ 32 0#32)))
            (cmpi .sle (broadcastInDim S2048x4x4x1 ![0, 1, 2] h1 (wrapped x w h0))
              (broadcastInDim S2048x4x4x1 ![0, 1, 2, 3] h4 (broadcastInDim S1x1x1x1 ![3] h3
                (constantI S1 32 (BitVec.ofNat 32 (N - 1)))))))
          (constantI S_ 1 1#1) h6 h7))
      (Host.gather (tableDims wf) y (broadcastInDim S2048x4x4x1 ![0, 1, 2] h1 (wrapped x w h0))) fill (ix4 s b k c)
      = y (ix2 n c) := by
  rw [wrapped_eq hN x w h0 hx]
  have hm : Host.reduce IntOp.andi
          (andi (cmpi .sge (broadcastInDim S2048x4x4x1 ![0, 1, 2] h1 x)
              (broadcastInDim S2048x4x4x1 ![] h2 (constantI S_ 32 0#32)))
            (cmpi .sle (broadcastInDim S2048x4x4x1 ![0, 1, 2] h1 x)
              (broadcastInDim S2048x4x4x1 ![0, 1, 2, 3] h4 (broadcastInDim S1x1x1x1 ![3] h3
                (constantI S1 32 (BitVec.ofNat 32 (N - 1)))))))
          (constantI S_ 1 1#1) h6 h7 = fun _ => 1#1 := by
    funext j
    refine Host.reduce_andi_one _ _ _ _ _ rfl fun i => ?_
    have both : ∀ J, IntOp.andi (IntOp.cmpi .sge (x J) 0#32) (IntOp.cmpi .sle (x J) (BitVec.ofNat 32 (N - 1))) = 1#1 := by
      intro J
      rw [(row_bits hN _ (hx J)).2.1, (row_bits hN _ (hx J)).2.2]
      decide
    exact both _
  rw [hm]
  refine (ValueIdx.select_one _ _).trans ?_
  refine table_apply wf y _ s b k c n ?_
  have hidx : broadcastInDim S2048x4x4x1 ![0, 1, 2] h1 x (ix4 s b k 0) = x (ix3 s b k) := by
    simp only [pointwise]
    simp
  rw [hidx, hn]
  exact ofNat_toInt hN n.val n.isLt.le

section

variable (s : Fin 2048) (b k : Fin 4)

theorem v0_apply (x : IVec S2048x4x4 32) (y : FVec Ideal S256x28 .f32) (hx : ∀ i, ∃ n : Fin 256, x i = BitVec.ofNat 32 n.val)
    (c : Fin 28) (n : Fin 256) (hn : x (ix3 s b k) = BitVec.ofNat 32 n.val) :
    val_main_v0 (F := Ideal) x y (ix4 s b k c) = y (ix2 n c) :=
  take (by decide) _ x _ y _ _ _ _ _ _ _ _ _ hx s b k c n hn

theorem v1_apply (x : IVec S2048x4x4 32) (y : FVec Ideal S16x2 .f32) (hx : ∀ i, ∃ n : Fin 16, x i = BitVec.ofNat 32 n.val)
    (c : Fin 2) (n : Fin 16) (hn : x (ix3 s b k) = BitVec.ofNat 32 n.val) :
    val_main_v1 (F := Ideal) x y (ix4 s b k c) = y (ix2 n c) :=
  take (by decide) _ x _ y _ _ _ _ _ _ _ _ _ hx s b k c n hn

theorem v2_apply (x : IVec S2048x4x4 32) (y : FVec Ideal S8x2 .f32) (hx : ∀ i, ∃ n : Fin 8, x i = BitVec.ofNat 32 n.val)
    (c : Fin 2) (n : Fin 8) (hn : x (ix3 s b k) = BitVec.ofNat 32 n.val) :
    val_main_v2 (F := Ideal) x y (ix4 s b k c) = y (ix2 n c) :=
  take (by decide) _ x _ y _ _ _ _ _ _ _ _ _ hx s b k c n hn

theorem v3_apply (x : IVec S2048x4x4 32) (y : FVec Ideal S32x16 .f32) (hx : ∀ i, ∃ n : Fin 32, x i = BitVec.ofNat 32 n.val)
    (c : Fin 16) (n : Fin 32) (hn : x (ix3 s b k) = BitVec.ofNat 32 n.val) :
    val_main_v3 (F := Ideal) x y (ix4 s b k c) = y (ix2 n c) :=
  take (by decide) _ x _ y _ _ _ _ _ _ _ _ _ hx s b k c n hn

theorem v4_apply (x : IVec S2048x4x4 32) (y : FVec Ideal S2250x16 .f32)
    (hx : ∀ i, ∃ n : Fin 2250, x i = BitVec.ofNat 32 n.val)
    (c : Fin 16) (n : Fin 2250) (hn : x (ix3 s b k) = BitVec.ofNat 32 n.val) :
    val_main_v4 (F := Ideal) x y (ix4 s b k c) = y (ix2 n c) :=
  take (by decide) _ x _ y _ _ _ _ _ _ _ _ _ hx s b k c n hn

end

end Cert.Proof.Take
-- ==== Proof.Cat.lean ====
/- A concatenation along the last axis, read in one of its pieces. -/
module

public import Idealize.ShloMosaic.Lib.Pipeline.Value
public import Idealize.ShloMosaic.Lib.Pointwise

@[expose] public section

noncomputable section

namespace Cert.Proof.Cat

open Idealize.ShloMosaic

variable {α : Type} {A B D C T : ℕ}

/-- The extents of pieces along an axis, added up. -/
abbrev extent {t : Shape} (a : Fin t.rank) (xs : List ((s : Shape) × (s.Idx → α))) : ℕ :=
  ((xs.map (·.1)).map fun s => if h : s.rank = t.rank then s.size (a.cast h.symm) else 0).sum

theorem cat2 (xs : List ((s : Shape) × (s.Idx → α))) (h : Shape.Concatenates (xs.map (·.1)) ⟨2, ![A, T]⟩ 1)
    (k : ℕ) (hk : k < xs.length) (x : (⟨2, ![A, C]⟩ : Shape).Idx → α) (hx : xs[k] = ⟨_, x⟩) (pre : ℕ)
    (hpre : extent (t := ⟨2, ![A, T]⟩) 1 (xs.take k) = pre) (a : Fin A) (j : Fin T) (c : Fin C) (hj : j.val = pre + c.val) :
    concatenate ⟨2, ![A, T]⟩ 1 xs h (ix2 a j) = x (ix2 a c) := by
  refine concatenate_apply_piece 1 xs h (ix2 a j) k hk _ x hx rfl pre hpre (ix2 a c) ?_ hj.symm
  intro i hi
  match i with
  | ⟨0, _⟩ => rfl
  | ⟨1, _⟩ => exact absurd rfl hi

theorem cat3 (xs : List ((s : Shape) × (s.Idx → α))) (h : Shape.Concatenates (xs.map (·.1)) ⟨3, ![A, B, T]⟩ 2)
    (k : ℕ) (hk : k < xs.length) (x : (⟨3, ![A, B, C]⟩ : Shape).Idx → α) (hx : xs[k] = ⟨_, x⟩) (pre : ℕ)
    (hpre : extent (t := ⟨3, ![A, B, T]⟩) 2 (xs.take k) = pre) (a : Fin A) (b : Fin B) (j : Fin T) (c : Fin C)
    (hj : j.val = pre + c.val) : concatenate ⟨3, ![A, B, T]⟩ 2 xs h (ix3 a b j) = x (ix3 a b c) := by
  refine concatenate_apply_piece 2 xs h (ix3 a b j) k hk _ x hx rfl pre hpre (ix3 a b c) ?_ hj.symm
  intro i hi
  match i with
  | ⟨0, _⟩ => rfl
  | ⟨1, _⟩ => rfl
  | ⟨2, _⟩ => exact absurd rfl hi

theorem cat4 (xs : List ((s : Shape) × (s.Idx → α))) (h : Shape.Concatenates (xs.map (·.1)) ⟨4, ![A, B, D, T]⟩ 3)
    (k : ℕ) (hk : k < xs.length) (x : (⟨4, ![A, B, D, C]⟩ : Shape).Idx → α) (hx : xs[k] = ⟨_, x⟩) (pre : ℕ)
    (hpre : extent (t := ⟨4, ![A, B, D, T]⟩) 3 (xs.take k) = pre) (a : Fin A) (b : Fin B) (d : Fin D) (j : Fin T) (c : Fin C)
    (hj : j.val = pre + c.val) : concatenate ⟨4, ![A, B, D, T]⟩ 3 xs h (ix4 a b d j) = x (ix4 a b d c) := by
  refine concatenate_apply_piece 3 xs h (ix4 a b d j) k hk _ x hx rfl pre hpre (ix4 a b d c) ?_ hj.symm
  intro i hi
  match i with
  | ⟨0, _⟩ => rfl
  | ⟨1, _⟩ => rfl
  | ⟨2, _⟩ => rfl
  | ⟨3, _⟩ => exact absurd rfl hi

end Cert.Proof.Cat
-- ==== Proof.Features.lean ====
/- The reference's fused features: which table row, or which position feature, each of a row's 384 entries is. -/
module

public import proofs.«01_k».proof.Proof.Take
public import proofs.«01_k».proof.Proof.Cat

@[expose] public section

noncomputable section

namespace Cert.Proof.Features

open Idealize.ShloMosaic Cert.ReferenceIdeal Cert.ReferenceIdeal.Read Cert.Proof.Cat Cert.Proof.Take

variable (x0 x1 x2 x3 x4 : IVec S2048x4x4 32)
  (x5 : FVec Ideal S2048x4x3 .f32) (x6 : FVec Ideal S256x28 .f32)
  (x7 : FVec Ideal S16x2 .f32) (x8 : FVec Ideal S8x2 .f32)
  (x9 : FVec Ideal S32x16 .f32) (x10 : FVec Ideal S2250x16 .f32)
  (x11 : FVec Ideal S3x128 .f32)

theorem v18_apply (s : Fin 2048) (b k : Fin 4) (c : Fin 32) (j : Fin 128) (hj : j.val = 32 * k.val + c.val) :
    val_main_v18 (F := Ideal) x0 x1 x2 x6 x7 x8 (ix3 s b j) = val_main_v17 (F := Ideal) x0 x1 x2 x6 x7 x8 (ix4 s b k c) := by
  refine (val_main_v18_apply (F := Ideal) x0 x1 x2 x6 x7 x8 _).trans (congrArg (val_main_v17 (F := Ideal) x0 x1 x2 x6 x7 x8) ?_)
  have := s.isLt; have := b.isLt; have := k.isLt; have := c.isLt
  funext a
  match a with
  | ⟨0, _⟩ => exact Fin.ext (show ((s.val * 4 + b.val) * 128 + j.val) / 512 = s.val by omega)
  | ⟨1, _⟩ => exact Fin.ext (show ((s.val * 4 + b.val) * 128 + j.val) / 128 % 4 = b.val by omega)
  | ⟨2, _⟩ => exact Fin.ext (show ((s.val * 4 + b.val) * 128 + j.val) / 32 % 4 = k.val by omega)
  | ⟨3, _⟩ => exact Fin.ext (show ((s.val * 4 + b.val) * 128 + j.val) % 32 = c.val by omega)

theorem v20_apply (s : Fin 2048) (b k : Fin 4) (c : Fin 32) (j : Fin 128) (hj : j.val = 32 * k.val + c.val) :
    val_main_v20 (F := Ideal) x3 x4 x9 x10 (ix3 s b j) = val_main_v19 (F := Ideal) x3 x4 x9 x10 (ix4 s b k c) := by
  refine (val_main_v20_apply (F := Ideal) x3 x4 x9 x10 _).trans (congrArg (val_main_v19 (F := Ideal) x3 x4 x9 x10) ?_)
  have := s.isLt; have := b.isLt; have := k.isLt; have := c.isLt
  funext a
  match a with
  | ⟨0, _⟩ => exact Fin.ext (show ((s.val * 4 + b.val) * 128 + j.val) / 512 = s.val by omega)
  | ⟨1, _⟩ => exact Fin.ext (show ((s.val * 4 + b.val) * 128 + j.val) / 128 % 4 = b.val by omega)
  | ⟨2, _⟩ => exact Fin.ext (show ((s.val * 4 + b.val) * 128 + j.val) / 32 % 4 = k.val by omega)
  | ⟨3, _⟩ => exact Fin.ext (show ((s.val * 4 + b.val) * 128 + j.val) % 32 = c.val by omega)

/-- The features, a row of 384. -/
abbrev feats (s : Fin 2048) (b : Fin 4) (j : Fin 384) : EReal :=
  val_main_v21 (F := Ideal) x0 x1 x2 x3 x4 x5 x6 x7 x8 x9 x10 x11 (ix3 s b j)

theorem left (s : Fin 2048) (b k : Fin 4) (c : Fin 32) (j : Fin 384) (hj : j.val = 32 * k.val + c.val) :
    feats x0 x1 x2 x3 x4 x5 x6 x7 x8 x9 x10 x11 s b j = val_main_v17 (F := Ideal) x0 x1 x2 x6 x7 x8 (ix4 s b k c) := by
  have := k.isLt; have := c.isLt
  exact (cat3 _ _ 0 (by simp) (val_main_v18 (F := Ideal) x0 x1 x2 x6 x7 x8) rfl 0 rfl s b j ⟨j.val, by omega⟩ (Nat.zero_add _).symm).trans
    (v18_apply x0 x1 x2 x6 x7 x8 s b k c _ hj)

theorem middle (s : Fin 2048) (b k : Fin 4) (c : Fin 32) (j : Fin 384) (hj : j.val = 128 + (32 * k.val + c.val)) :
    feats x0 x1 x2 x3 x4 x5 x6 x7 x8 x9 x10 x11 s b j = val_main_v19 (F := Ideal) x3 x4 x9 x10 (ix4 s b k c) := by
  have := k.isLt; have := c.isLt
  exact (cat3 _ _ 1 (by simp) (val_main_v20 (F := Ideal) x3 x4 x9 x10) rfl 128 rfl s b j ⟨32 * k.val + c.val, by omega⟩ hj).trans
    (v20_apply x3 x4 x9 x10 s b k c _ rfl)

theorem right (s : Fin 2048) (b : Fin 4) (c : Fin 128) (j : Fin 384) (hj : j.val = 256 + c.val) :
    feats x0 x1 x2 x3 x4 x5 x6 x7 x8 x9 x10 x11 s b j = val_main_v16 (F := Ideal) x5 x11 (ix3 s b c) :=
  cat3 _ _ 2 (by simp) (val_main_v16 (F := Ideal) x5 x11) rfl 256 rfl s b j c hj

section rows

variable (s : Fin 2048) (b k : Fin 4) (j : Fin 384)

theorem feat0 (hx : ∀ i, ∃ n : Fin 256, x0 i = BitVec.ofNat 32 n.val) (c : Fin 28) (n : Fin 256)
    (hn : x0 (ix3 s b k) = BitVec.ofNat 32 n.val) (hj : j.val = 32 * k.val + c.val) :
    feats x0 x1 x2 x3 x4 x5 x6 x7 x8 x9 x10 x11 s b j = x6 (ix2 n c) := by
  have hc : c.val < 32 := by omega
  exact (left x0 x1 x2 x3 x4 x5 x6 x7 x8 x9 x10 x11 s b k ⟨c.val, hc⟩ j hj).trans
    ((cat4 _ _ 0 (by simp) (val_main_v0 (F := Ideal) x0 x6) rfl 0 rfl s b k ⟨c.val, hc⟩ c (Nat.zero_add _).symm).trans (v0_apply s b k x0 x6 hx c n hn))

theorem feat1 (hx : ∀ i, ∃ n : Fin 16, x1 i = BitVec.ofNat 32 n.val) (c : Fin 2) (n : Fin 16)
    (hn : x1 (ix3 s b k) = BitVec.ofNat 32 n.val) (hj : j.val = 32 * k.val + (28 + c.val)) :
    feats x0 x1 x2 x3 x4 x5 x6 x7 x8 x9 x10 x11 s b j = x7 (ix2 n c) := by
  have hc : c.val < 32 := by omega
  exact (left x0 x1 x2 x3 x4 x5 x6 x7 x8 x9 x10 x11 s b k ⟨28 + c.val, by omega⟩ j hj).trans
    ((cat4 _ _ 1 (by simp) (val_main_v1 (F := Ideal) x1 x7) rfl 28 rfl s b k _ c rfl).trans (v1_apply s b k x1 x7 hx c n hn))

theorem feat2 (hx : ∀ i, ∃ n : Fin 8, x2 i = BitVec.ofNat 32 n.val) (c : Fin 2) (n : Fin 8)
    (hn : x2 (ix3 s b k) = BitVec.ofNat 32 n.val) (hj : j.val = 32 * k.val + (30 + c.val)) :
    feats x0 x1 x2 x3 x4 x5 x6 x7 x8 x9 x10 x11 s b j = x8 (ix2 n c) := by
  have hc : c.val < 32 := by omega
  exact (left x0 x1 x2 x3 x4 x5 x6 x7 x8 x9 x10 x11 s b k ⟨30 + c.val, by omega⟩ j hj).trans
    ((cat4 _ _ 2 (by simp) (val_main_v2 (F := Ideal) x2 x8) rfl 30 rfl s b k _ c rfl).trans (v2_apply s b k x2 x8 hx c n hn))

theorem feat3 (hx : ∀ i, ∃ n : Fin 32, x3 i = BitVec.ofNat 32 n.val) (c : Fin 16) (n : Fin 32)
    (hn : x3 (ix3 s b k) = BitVec.ofNat 32 n.val) (hj : j.val = 128 + (32 * k.val + c.val)) :
    feats x0 x1 x2 x3 x4 x5 x6 x7 x8 x9 x10 x11 s b j = x9 (ix2 n c) := by
  have hc : c.val < 32 := by omega
  exact (middle x0 x1 x2 x3 x4 x5 x6 x7 x8 x9 x10 x11 s b k ⟨c.val, hc⟩ j hj).trans
    ((cat4 _ _ 0 (by simp) (val_main_v3 (F := Ideal) x3 x9) rfl 0 rfl s b k ⟨c.val, hc⟩ c (Nat.zero_add _).symm).trans (v3_apply s b k x3 x9 hx c n hn))

theorem feat4 (hx : ∀ i, ∃ n : Fin 2250, x4 i = BitVec.ofNat 32 n.val) (c : Fin 16) (n : Fin 2250)
    (hn : x4 (ix3 s b k) = BitVec.ofNat 32 n.val) (hj : j.val = 128 + (32 * k.val + (16 + c.val))) :
    feats x0 x1 x2 x3 x4 x5 x6 x7 x8 x9 x10 x11 s b j = x10 (ix2 n c) := by
  have hc : c.val < 32 := by omega
  exact (middle x0 x1 x2 x3 x4 x5 x6 x7 x8 x9 x10 x11 s b k ⟨16 + c.val, by omega⟩ j hj).trans
    ((cat4 _ _ 1 (by simp) (val_main_v4 (F := Ideal) x4 x10) rfl 16 rfl s b k _ c rfl).trans (v4_apply s b k x4 x10 hx c n hn))

end rows

/-- The embedding of a row, from its features. -/
theorem v25_apply (x12 : FVec Ideal S384x256 .f32) (x13 : FVec Ideal S256 .f32) (s : Fin 2048) (b : Fin 4) (f : Fin 256) :
    val_main_v25 (F := Ideal) x0 x1 x2 x3 x4 x5 x6 x7 x8 x9 x10 x11 x12 x13 (ix3 s b f)
      = (∑ j, feats x0 x1 x2 x3 x4 x5 x6 x7 x8 x9 x10 x11 s b j * x12 (ix2 j f)) + x13 (ix1 f) := by
  unfold val_main_v25 val_main_v22 val_main_v24 val_main_v23 feats
  generalize val_main_v21 (F := Ideal) x0 x1 x2 x3 x4 x5 x6 x7 x8 x9 x10 x11 = y
  simp only [pointwise]
  simp

/-- The position features of a row. -/
theorem v16_apply (s : Fin 2048) (b : Fin 4) (f : Fin 128) :
    val_main_v16 (F := Ideal) x5 x11 (ix3 s b f) = ∑ k, val_main_v15 (F := Ideal) x5 (ix3 s b k) * x11 (ix2 k f) := by
  unfold val_main_v16
  generalize val_main_v15 (F := Ideal) x5 = y
  simp only [pointwise]
  try simp

end Cert.Proof.Features
-- ==== Proof.RefAttn.lean ====
/- The reference's attention, read at an entry: distances, scores and the softmax over the sixteen nearest keys. -/
module

public import proofs.«01_k».proof.Proof.Gen.ReferenceIdeal.Read
public import proofs.«01_k».proof.Proof.AttnBlock
public import proofs.«01_k».proof.Proof.Order
public import proofs.«01_k».proof.Proof.Gathers

@[expose] public section

noncomputable section

namespace Cert.Proof.RefAttn

open Idealize.ShloMosaic Cert.ReferenceIdeal Cert.ReferenceIdeal.Read Cert.Proof.Select Cert.Proof.AttnBlock Cert.Proof.Order

theorem v38_apply (x5 : (⟨S2048x4x3, .f32⟩ : BufTy).Contents (Elt Ideal))
    (x11 : (⟨S3x128, .f32⟩ : BufTy).Contents (Elt Ideal)) (b : Fin 4) (s j : Fin 2048) :
    val_main_v38 (F := Ideal) x5 x11 (ix3 b s j)
      = sqDist (fun k => val_main_v16 (F := Ideal) x5 x11 (ix3 s b k)) fun k => val_main_v16 (F := Ideal) x5 x11 (ix3 j b k) := by
  unfold val_main_v38 val_main_v34 val_main_v32 val_main_v33 val_main_v31 val_main_v30 val_main_v29 val_main_v28 val_main_v37 val_main_v36
    val_main_v35 val_main_v26 val_main_cst_2 val_main_cst_3 sqDist
  generalize val_main_v16 (F := Ideal) x5 x11 = y
  simp only [pointwise]
  simp

section

variable (x0 x1 x2 x3 x4 : (⟨S2048x4x4, .i32⟩ : BufTy).Contents (Elt Ideal))
  (x5 : (⟨S2048x4x3, .f32⟩ : BufTy).Contents (Elt Ideal)) (x6 : (⟨S256x28, .f32⟩ : BufTy).Contents (Elt Ideal))
  (x7 : (⟨S16x2, .f32⟩ : BufTy).Contents (Elt Ideal)) (x8 : (⟨S8x2, .f32⟩ : BufTy).Contents (Elt Ideal))
  (x9 : (⟨S32x16, .f32⟩ : BufTy).Contents (Elt Ideal)) (x10 : (⟨S2250x16, .f32⟩ : BufTy).Contents (Elt Ideal))
  (x11 : (⟨S3x128, .f32⟩ : BufTy).Contents (Elt Ideal)) (x12 : (⟨S384x256, .f32⟩ : BufTy).Contents (Elt Ideal))
  (x13 : (⟨S256, .f32⟩ : BufTy).Contents (Elt Ideal)) (x14 x15 x16 x17 : (⟨S256x256, .f32⟩ : BufTy).Contents (Elt Ideal))

/-- The reference's distances of key rows to query row `s` of batch `b`. -/
abbrev near (b : Fin 4) (s j : Fin 2048) : EReal := val_main_v38 (F := Ideal) x5 x11 (ix3 b s j)

/-- The key row that is `r`-th nearest to query row `s`. -/
abbrev nth (b : Fin 4) (s : Fin 2048) (r : Fin 16) : Fin 2048 := order (near x5 x11 b s) (r.castLE (by decide))

theorem indices_apply (b : Fin 4) (s : Fin 2048) (r : Fin 16) :
    val_main_indices (F := Ideal) x5 x11 (ix3 b s r) = BitVec.ofNat 32 (nth x5 x11 b s r).val :=
  (topK_neg (B := 4) (S := 2048) (n := 2048) (K := 16) (by decide) (val_main_v38 (F := Ideal) x5 x11)
    (by decide) b s r).2

theorem small_not_neg (n : Fin 2048) :
    (IntOp.cmpi .slt (BitVec.ofNat 32 n.val) 0#32 = 0#1) ∧ (BitVec.ofNat 32 n.val).toInt = n.val := by
  have h : (BitVec.ofNat 32 n.val).toInt = n.val := by
    have := n.isLt
    rw [BitVec.toInt_eq_toNat_of_lt (by rw [BitVec.toNat_ofNat]; omega), BitVec.toNat_ofNat]
    omega
  refine ⟨?_, h⟩
  show BitVec.ofBool ((BitVec.ofNat 32 n.val).slt 0#32) = 0#1
  rw [BitVec.slt, h, decide_eq_false (by simp)]
  rfl

theorem v45_apply (b : Fin 4) (s : Fin 2048) (r : Fin 16) :
    (val_main_v45 (F := Ideal) x5 x11 (ix4 b s r 0)).toInt = (nth x5 x11 b s r).val := by
  have h : val_main_v45 (F := Ideal) x5 x11 (ix4 b s r 0) = BitVec.ofNat 32 (nth x5 x11 b s r).val := by
    unfold val_main_v45 val_main_v44 val_main_v41 val_main_v43 val_main_v40 val_main_c
    simp only [pointwise]
    simp [indices_apply, (small_not_neg _).1, ValueIdx.select_zero]
  rw [h]
  exact (small_not_neg _).2

/-- The embedding of row `s` of batch `b`. -/
abbrev embed (b : Fin 4) (s : Fin 2048) (k : Fin 256) : EReal :=
  val_main_v25 (F := Ideal) x0 x1 x2 x3 x4 x5 x6 x7 x8 x9 x10 x11 x12 x13 (ix3 s b k)

theorem v46_apply (b : Fin 4) (s : Fin 2048) (r : Fin 16) (k : Fin 256) :
    val_main_v46 (F := Ideal) x0 x1 x2 x3 x4 x5 x6 x7 x8 x9 x10 x11 x12 x13 (ix4 b s r k)
      = embed x0 x1 x2 x3 x4 x5 x6 x7 x8 x9 x10 x11 x12 x13 b (nth x5 x11 b s r) k := by
  refine (Gathers.batch_apply _ _ _ b s r k (nth x5 x11 b s r) (v45_apply x5 x11 b s r)).trans ?_
  unfold val_main_v27
  simp only [pointwise]

/-- A row times a square matrix. -/
def proj (e : Fin 256 → EReal) (w : (⟨S256x256, .f32⟩ : BufTy).Contents (Elt Ideal)) (t : Fin 256) : EReal :=
  ∑ k, e k * w (ix2 k t)

/-- The reference's result at an entry. -/
theorem v67_apply (b : Fin 4) (s : Fin 2048) (f : Fin 256) :
    val_main_v67 (F := Ideal) x0 x1 x2 x3 x4 x5 x6 x7 x8 x9 x10 x11 x12 x13 x14 x15 x16 x17 (ix3 b s f)
      = (∑ c, attend (fun r => Ideal.div (∑ t, proj (embed x0 x1 x2 x3 x4 x5 x6 x7 x8 x9 x10 x11 x12 x13 b s) x14 t
              * proj (embed x0 x1 x2 x3 x4 x5 x6 x7 x8 x9 x10 x11 x12 x13 b (nth x5 x11 b s r)) x15 t)
            (Ideal.sqrt (Ideal.ofBits .f32 0x43800000#32)))
          (fun r => proj (embed x0 x1 x2 x3 x4 x5 x6 x7 x8 x9 x10 x11 x12 x13 b (nth x5 x11 b s r)) x16 c) * x17 (ix2 c f))
        + embed x0 x1 x2 x3 x4 x5 x6 x7 x8 x9 x10 x11 x12 x13 b s f := by
  unfold val_main_v67 val_main_v66 val_main_v65 val_main_v64 val_main_v63 val_main_v62 val_main_v61 val_main_v60 val_main_v59
    val_main_v58 val_main_v57 val_main_v56 val_main_v55 val_main_v54 val_main_v53 val_main_v52 val_main_v51 val_main_v50
    val_main_v49 val_main_v48 val_main_v47 val_main_v27 val_main_cst_5 val_main_cst_6 val_main_cst_7 val_main_cst_8
  have h46 := v46_apply x0 x1 x2 x3 x4 x5 x6 x7 x8 x9 x10 x11 x12 x13 b s
  generalize val_main_v46 (F := Ideal) x0 x1 x2 x3 x4 x5 x6 x7 x8 x9 x10 x11 x12 x13 = g at h46 ⊢
  unfold embed at h46 ⊢
  generalize val_main_v25 (F := Ideal) x0 x1 x2 x3 x4 x5 x6 x7 x8 x9 x10 x11 x12 x13 = e at h46 ⊢
  simp only [pointwise]
  simp only [zero_add, neg_inf_bits, bot_le, max_eq_right, OfNat.ofNat_ne_one, ↓reduceDIte, h46, attend, high, proj]

end

end Cert.Proof.RefAttn
-- ==== Proof.Reals.lean ====
/- What is a real number, not an infinity, under the precondition: the normalised positions, the fused features, the
   embeddings and their projections. -/
module

public import proofs.«01_k».proof.Proof.Pre
public import proofs.«01_k».proof.Proof.Features
public import proofs.«01_k».proof.Proof.RefAttn

@[expose] public section

noncomputable section

namespace Cert.Proof.Reals

open Idealize.ShloMosaic Cert.ReferenceIdeal Cert.ReferenceIdeal.Read Cert.Proof.Pre Cert.Proof.Features Cert.Proof.RefAttn Cert.Proof.Select

theorem IsReal.add {x y : EReal} : IsReal x → IsReal y → IsReal (x + y) := by
  rintro ⟨a, rfl⟩ ⟨b, rfl⟩
  exact ⟨a + b, (EReal.coe_add a b).symm⟩

theorem IsReal.mul {x y : EReal} : IsReal x → IsReal y → IsReal (x * y) := by
  rintro ⟨a, rfl⟩ ⟨b, rfl⟩
  exact ⟨a * b, (EReal.coe_mul a b).symm⟩

theorem IsReal.sum {n : ℕ} {g : Fin n → EReal} (h : ∀ i, IsReal (g i)) : IsReal (∑ i, g i) :=
  Finset.sum_induction g IsReal (fun _ _ => IsReal.add) ⟨0, EReal.coe_zero.symm⟩ fun i _ => h i

/-! ## The normalised positions

A row of positions with an infinite coordinate is at infinite distances only, of which no three increase strictly. -/

theorem square_nonneg (x : EReal) : 0 ≤ x * x := by
  rcases le_total 0 x with h | h
  · exact mul_nonneg h h
  · have := mul_nonneg (EReal.neg_nonneg.2 h) (EReal.neg_nonneg.2 h)
    rwa [neg_mul_neg] at this

theorem square_top {x : EReal} (h : ¬ IsReal x) : x * x = ⊤ := by
  induction x using EReal.rec with
  | bot => exact EReal.bot_mul_bot
  | top => exact EReal.top_mul_top
  | coe r => exact absurd ⟨r, rfl⟩ h

theorem sqDist_infinite {n : ℕ} (a b : Fin n → EReal) (c : Fin n) (h : ¬ IsReal (a c)) :
    AttnBlock.sqDist a b = ⊤ ∨ AttnBlock.sqDist a b = ⊥ := by
  have ha : ∑ k, a k * a k = ⊤ := by
    refine top_le_iff.1 ?_
    rw [← square_top h]
    exact Finset.single_le_sum (f := fun k => a k * a k) (fun k _ => square_nonneg (a k)) (Finset.mem_univ c)
  have hb : ∑ k, b k * b k ≠ ⊥ := (EReal.bot_lt_zero.trans_le (Finset.sum_nonneg fun k _ => square_nonneg (b k))).ne'
  unfold AttnBlock.sqDist
  rw [ha, EReal.top_add_of_ne_bot hb]
  generalize Ideal.ofBits .f32 0x40000000#32 * ∑ k, a k * b k = x
  induction x using EReal.rec with
  | bot => exact .inl EReal.top_sub_bot
  | top => exact .inr (by rw [sub_eq_add_neg, EReal.neg_top, EReal.add_bot])
  | coe r => exact .inl (EReal.top_sub_coe r)

theorem no_three {x y z : EReal} (hx : x = ⊤ ∨ x = ⊥) (hy : y = ⊤ ∨ y = ⊥) (h : x < y) (h' : y < z) : False := by
  rcases hy with rfl | rfl
  · exact not_top_lt h'
  · exact not_lt_bot h

section

variable (x0 x1 x2 x3 x4 : IVec S2048x4x4 32) (x5 : FVec Ideal S2048x4x3 .f32) (x6 : FVec Ideal S256x28 .f32)
  (x7 : FVec Ideal S16x2 .f32) (x8 : FVec Ideal S8x2 .f32) (x9 : FVec Ideal S32x16 .f32) (x10 : FVec Ideal S2250x16 .f32)
  (x11 : FVec Ideal S3x128 .f32) (x12 : FVec Ideal S384x256 .f32) (x13 : FVec Ideal S256 .f32) (x14 x15 : FVec Ideal S256x256 .f32)
  (h : Holds x0 x1 x2 x3 x4 x5 x6 x7 x8 x9 x10 x11 x12 x13 x14 x15)
include h

theorem v16_real (s : Fin 2048) (b : Fin 4) (c : Fin 128) : IsReal (val_main_v16 (F := Ideal) x5 x11 (ix3 s b c)) := by
  by_contra hc
  have far : ∀ j, val_main_v38 (F := Ideal) x5 x11 (ix3 b s j) = ⊤ ∨ val_main_v38 (F := Ideal) x5 x11 (ix3 b s j) = ⊥ := fun j => by
    rw [v38_apply x5 x11 b s j]
    exact sqDist_infinite _ _ c hc
  exact no_three (far _) (far _) (h.apart b s ⟨0, by omega⟩ (by dsimp; omega) ⟨1, by omega⟩ (by simp))
    (h.apart b s ⟨1, by omega⟩ (by dsimp; omega) ⟨2, by omega⟩ (by simp))

theorem feats_real (s : Fin 2048) (b : Fin 4) (j : Fin 384) : IsReal (feats x0 x1 x2 x3 x4 x5 x6 x7 x8 x9 x10 x11 s b j) := by
  by_cases hr : 256 ≤ j.val
  · have hc : j.val - 256 < 128 := by omega
    rw [right x0 x1 x2 x3 x4 x5 x6 x7 x8 x9 x10 x11 s b ⟨j.val - 256, hc⟩ j (by dsimp; omega)]
    exact v16_real x0 x1 x2 x3 x4 x5 x6 x7 x8 x9 x10 x11 x12 x13 x14 x15 h s b _
  by_cases hm : 128 ≤ j.val
  · have hk : (j.val - 128) / 32 < 4 := by omega
    by_cases hc : (j.val - 128) % 32 < 16
    · obtain ⟨n, hn⟩ := h.rows3 (ix3 s b ⟨(j.val - 128) / 32, hk⟩)
      rw [feat3 x0 x1 x2 x3 x4 x5 x6 x7 x8 x9 x10 x11 s b ⟨(j.val - 128) / 32, hk⟩ j h.rows3 ⟨(j.val - 128) % 32, hc⟩ n hn (by dsimp; omega)]
      exact h.real9 _
    · have hc' : (j.val - 128) % 32 - 16 < 16 := by omega
      obtain ⟨n, hn⟩ := h.rows4 (ix3 s b ⟨(j.val - 128) / 32, hk⟩)
      rw [feat4 x0 x1 x2 x3 x4 x5 x6 x7 x8 x9 x10 x11 s b ⟨(j.val - 128) / 32, hk⟩ j h.rows4 ⟨(j.val - 128) % 32 - 16, hc'⟩ n hn (by dsimp; omega)]
      exact h.real10 _
  have hk : j.val / 32 < 4 := by omega
  by_cases h0 : j.val % 32 < 28
  · obtain ⟨n, hn⟩ := h.rows0 (ix3 s b ⟨j.val / 32, hk⟩)
    rw [feat0 x0 x1 x2 x3 x4 x5 x6 x7 x8 x9 x10 x11 s b ⟨j.val / 32, hk⟩ j h.rows0 ⟨j.val % 32, h0⟩ n hn (by dsimp; omega)]
    exact h.real6 _
  by_cases h1 : j.val % 32 < 30
  · have hc : j.val % 32 - 28 < 2 := by omega
    obtain ⟨n, hn⟩ := h.rows1 (ix3 s b ⟨j.val / 32, hk⟩)
    rw [feat1 x0 x1 x2 x3 x4 x5 x6 x7 x8 x9 x10 x11 s b ⟨j.val / 32, hk⟩ j h.rows1 ⟨j.val % 32 - 28, hc⟩ n hn (by dsimp; omega)]
    exact h.real7 _
  · have hc : j.val % 32 - 30 < 2 := by omega
    obtain ⟨n, hn⟩ := h.rows2 (ix3 s b ⟨j.val / 32, hk⟩)
    rw [feat2 x0 x1 x2 x3 x4 x5 x6 x7 x8 x9 x10 x11 s b ⟨j.val / 32, hk⟩ j h.rows2 ⟨j.val % 32 - 30, hc⟩ n hn (by dsimp; omega)]
    exact h.real8 _

theorem embed_real (b : Fin 4) (s : Fin 2048) (f : Fin 256) : IsReal (embed x0 x1 x2 x3 x4 x5 x6 x7 x8 x9 x10 x11 x12 x13 b s f) := by
  unfold embed
  rw [v25_apply x0 x1 x2 x3 x4 x5 x6 x7 x8 x9 x10 x11 x12 x13 s b f]
  exact IsReal.add (IsReal.sum fun j => IsReal.mul (feats_real x0 x1 x2 x3 x4 x5 x6 x7 x8 x9 x10 x11 x12 x13 x14 x15 h s b j) (h.real12 _)) (h.real13 _)

theorem q_real (b : Fin 4) (s : Fin 2048) (f : Fin 256) : IsReal (proj (embed x0 x1 x2 x3 x4 x5 x6 x7 x8 x9 x10 x11 x12 x13 b s) x14 f) :=
  IsReal.sum fun k => IsReal.mul (embed_real x0 x1 x2 x3 x4 x5 x6 x7 x8 x9 x10 x11 x12 x13 x14 x15 h b s k) (h.real14 _)

theorem k_real (b : Fin 4) (s : Fin 2048) (f : Fin 256) : IsReal (proj (embed x0 x1 x2 x3 x4 x5 x6 x7 x8 x9 x10 x11 x12 x13 b s) x15 f) :=
  IsReal.sum fun k => IsReal.mul (embed_real x0 x1 x2 x3 x4 x5 x6 x7 x8 x9 x10 x11 x12 x13 x14 x15 h b s k) (h.real15 _)

end

end Cert.Proof.Reals
-- ==== Proof.Norm.lean ====
/- The normalising kernel's stored array is the reference's normalised positions, which are real numbers when the positions
   are. -/
module

public import proofs.«01_k».proof.Proof.Gen.KernelIdeal.Frame
public import proofs.«01_k».proof.Proof.Gen.ReferenceIdeal.Read
public import proofs.«01_k».proof.Proof.Pre
public import Idealize.ShloMosaic.Lib.Pointwise
public import Idealize.ShloMosaic.Lib.Pipeline.ValueKit.Tiles

@[expose] public section

noncomputable section

namespace Cert.Proof.Norm

open Idealize.ShloMosaic Cert.KernelIdeal Cert.KernelIdeal.Gen

theorem zeros3 : (![0, 0, 0] : Fin 3 → ℕ) = fun _ => 0 := by
  funext a
  match a with
  | ⟨0, _⟩ => rfl
  | ⟨1, _⟩ => rfl
  | ⟨2, _⟩ => rfl

theorem out_apply (x : Vec Ideal S2048x4x3 .f32) (s : Fin 2048) (b : Fin 4) (k : Fin 3) :
    out0_1 x (ix3 s b k) = Cert.ReferenceIdeal.Read.val_main_v15 (F := Ideal) x (ix3 s b k) := by
  have hout : out0_1 x = k0_pay1 x := by
    unfold out0_1
    rw [show View.ld x r0_0 = x from View.ld_unit_zero zeros3 _ x]
    exact View.canon_unit_zero zeros3 _ _
  rw [hout]
  unfold k0_pay1 Cert.ReferenceIdeal.Read.val_main_v15 Cert.ReferenceIdeal.Read.val_main_v14 Cert.ReferenceIdeal.Read.val_main_v13
    Cert.ReferenceIdeal.Read.val_main_v12 Cert.ReferenceIdeal.Read.val_main_v11 Cert.ReferenceIdeal.Read.val_main_v10
    Cert.ReferenceIdeal.Read.val_main_v9 Cert.ReferenceIdeal.Read.val_main_v8 Cert.ReferenceIdeal.Read.val_main_v7
    Cert.ReferenceIdeal.Read.val_main_v6 Cert.ReferenceIdeal.Read.val_main_v5 Cert.ReferenceIdeal.Read.val_main_cst
    Cert.ReferenceIdeal.Read.val_main_cst_0 Cert.ReferenceIdeal.Read.val_main_cst_1
  simp only [pointwise]
  simp

end Cert.Proof.Norm
-- ==== Proof.Pick.lean ====
/- A one-hot row times a table is the table's row, for the kernel's embedding look-ups. -/
module

public import proofs.«01_k».proof.Proof.Gen.KernelIdeal.Skeleton
public import Idealize.ShloMosaic.Lib.Pointwise
public import Idealize.ShloMosaic.Lib.MatmulPlain
public import Idealize.ShloMosaic.Lib.ValueIdx

@[expose] public section

noncomputable section

namespace Cert.Proof.Pick

open Idealize.ShloMosaic Cert.KernelIdeal Cert.KernelIdeal.Gen

variable {N C : ℕ}

/-- A row number's one-hot row. -/
def oneHot (N : ℕ) (col : IVec S256x1 32) (h1 : S256x1.ShapeCasts S256) (h2 : S256.ShapeCasts S256x1)
    (h3 : S256x1.Broadcasts ⟨2, ![256, N]⟩) (h4 : (⟨2, ![256, N]⟩ : Shape).Iotas .tc 32 [1]) (h5 : 1 < 32) : FVec Ideal ⟨2, ![256, N]⟩ .f32 :=
  sitofp .f32 (extui 32 (cmpi .eq (broadcastTo ⟨2, ![256, N]⟩ (shapeCast S256x1 (shapeCast S256 col h1) h2) h3)
    (iota .tc ⟨2, ![256, N]⟩ 32 [1] h4)) h5)

theorem oneHot_apply (hN : N < 2 ^ 31) (col : IVec S256x1 32) (h1) (h2) (h3) (h4) (h5) (r : Fin 256) (n j : Fin N)
    (hn : col (ix2 r 0) = BitVec.ofNat 32 n.val) :
    oneHot N col h1 h2 h3 h4 h5 (ix2 r j) = if n = j then 1 else 0 := by
  have hb : ∀ y : IVec S256x1 32, broadcastTo ⟨2, ![256, N]⟩ y h3 (ix2 r j) = y (ix2 r 0) := by
    intro y
    simp only [pointwise]
    simp
  have hs : shapeCast S256x1 (shapeCast S256 col h1) h2 (ix2 r 0) = col (ix2 r 0) := by
    simp only [pointwise]
  have hi : iota .tc ⟨2, ![256, N]⟩ 32 [1] h4 (ix2 r j) = BitVec.ofNat 32 j.val := by
    simp only [pointwise]
    simp [List.foldl]
  have hc : cmpi .eq (broadcastTo ⟨2, ![256, N]⟩ (shapeCast S256x1 (shapeCast S256 col h1) h2) h3)
      (iota .tc ⟨2, ![256, N]⟩ 32 [1] h4) (ix2 r j) = if n = j then 1#1 else 0#1 := by
    show IntOp.cmpi .eq _ _ = _
    rw [hb, hs, hi, hn]
    show BitVec.ofBool (BitVec.ofNat 32 n.val == BitVec.ofNat 32 j.val) = _
    by_cases e : n = j
    · subst e
      simp
    · have : BitVec.ofNat 32 n.val ≠ BitVec.ofNat 32 j.val := by
        intro h
        have h' := congrArg BitVec.toNat h
        rw [BitVec.toNat_ofNat, BitVec.toNat_ofNat] at h'
        exact e (Fin.ext (by have := n.isLt; have := j.isLt; omega))
      rw [beq_false_of_ne this, if_neg e]
      rfl
  show FloatOps.sitofp (F := Ideal) .f32 ((cmpi .eq (broadcastTo ⟨2, ![256, N]⟩ (shapeCast S256x1 (shapeCast S256 col h1) h2) h3)
      (iota .tc ⟨2, ![256, N]⟩ 32 [1] h4) (ix2 r j)).setWidth 32) = _
  rw [hc]
  show (((((if n = j then 1#1 else 0#1).setWidth 32).toInt : ℝ)) : EReal) = _
  split
  · simp
  · simp

theorem pick_apply (hN : N < 2 ^ 31) (col : IVec S256x1 32) (tab : FVec Ideal ⟨2, ![N, C]⟩ .f32) (h1) (h2) (h3) (h4) (h5)
    (r : Fin 256) (c : Fin C) (n : Fin N) (hn : col (ix2 r 0) = BitVec.ofNat 32 n.val) :
    matmul (DotDims.plain 256 N C) none (oneHot N col h1 h2 h3 h4 h5) tab (constant ⟨2, ![256, C]⟩ .f32 0x00000000#32) (ix2 r c)
      = tab (ix2 n c) := by
  have h := fun j => oneHot_apply hN col h1 h2 h3 h4 h5 r n j hn
  generalize oneHot N col h1 h2 h3 h4 h5 = y at h ⊢
  refine (Ideal.matmul_plain_apply none y tab _ r c).trans ?_
  have hz : constant (F := Ideal) ⟨2, ![256, C]⟩ .f32 0x00000000#32 (ix2 r c) = (0 : EReal) := by
    show Ideal.ofBits .f32 0x00000000#32 = 0
    simp [Ideal.ofBits, Ideal.ieee]
  have hsum : ∑ k : Fin N, (y (ix2 r k) : EReal) * tab (ix2 k c) = tab (ix2 n c) := by
    rw [Finset.sum_eq_single n]
    · rw [h n, if_pos rfl]
      exact one_mul _
    · intro j _ hj
      rw [h j, if_neg (Ne.symm hj)]
      exact zero_mul _
    · exact fun hn => absurd (Finset.mem_univ n) hn
  exact (congrArg₂ (fun p q : EReal => p + q) hz hsum).trans (zero_add _)

end Cert.Proof.Pick
-- ==== Proof.Ladder.lean ====
/- The 21 pieces the embedding kernel lays side by side. -/
module

public import proofs.«01_k».proof.Proof.Gen.KernelIdeal.Skeleton
public import proofs.«01_k».proof.Proof.Cat

@[expose] public section

noncomputable section

namespace Cert.Proof.Ladder

open Idealize.ShloMosaic Cert.KernelIdeal Cert.KernelIdeal.Gen Cert.Proof.Cat

theorem before_nil {t : Shape} (a : Fin t.rank) : extent (t := t) a ([] : List ((s : Shape) × (s.Idx → EReal))) = 0 :=
  rfl

theorem before_cons {A C T : ℕ} (x : (⟨2, ![A, C]⟩ : Shape).Idx → EReal) (xs : List ((s : Shape) × (s.Idx → EReal))) :
    extent (t := ⟨2, ![A, T]⟩) 1 (⟨⟨2, ![A, C]⟩, x⟩ :: xs) = C + extent (t := ⟨2, ![A, T]⟩) 1 xs :=
  rfl

set_option maxHeartbeats 1000000 in
/-- Row `r` of the 21 pieces laid side by side is `g` when each piece's row is `g` from where the piece starts. -/
theorem ladder (g : Fin 384 → EReal) (r : Fin 256)
    (y0 : FVec Ideal ⟨2, ![256, 28]⟩ .f32) (h0 : ∀ (c : Fin 28) (j : Fin 384), j.val = 0 + c.val → y0 (ix2 r c) = g j)
    (y1 : FVec Ideal ⟨2, ![256, 2]⟩ .f32) (h1 : ∀ (c : Fin 2) (j : Fin 384), j.val = 28 + c.val → y1 (ix2 r c) = g j)
    (y2 : FVec Ideal ⟨2, ![256, 2]⟩ .f32) (h2 : ∀ (c : Fin 2) (j : Fin 384), j.val = 30 + c.val → y2 (ix2 r c) = g j)
    (y3 : FVec Ideal ⟨2, ![256, 28]⟩ .f32) (h3 : ∀ (c : Fin 28) (j : Fin 384), j.val = 32 + c.val → y3 (ix2 r c) = g j)
    (y4 : FVec Ideal ⟨2, ![256, 2]⟩ .f32) (h4 : ∀ (c : Fin 2) (j : Fin 384), j.val = 60 + c.val → y4 (ix2 r c) = g j)
    (y5 : FVec Ideal ⟨2, ![256, 2]⟩ .f32) (h5 : ∀ (c : Fin 2) (j : Fin 384), j.val = 62 + c.val → y5 (ix2 r c) = g j)
    (y6 : FVec Ideal ⟨2, ![256, 28]⟩ .f32) (h6 : ∀ (c : Fin 28) (j : Fin 384), j.val = 64 + c.val → y6 (ix2 r c) = g j)
    (y7 : FVec Ideal ⟨2, ![256, 2]⟩ .f32) (h7 : ∀ (c : Fin 2) (j : Fin 384), j.val = 92 + c.val → y7 (ix2 r c) = g j)
    (y8 : FVec Ideal ⟨2, ![256, 2]⟩ .f32) (h8 : ∀ (c : Fin 2) (j : Fin 384), j.val = 94 + c.val → y8 (ix2 r c) = g j)
    (y9 : FVec Ideal ⟨2, ![256, 28]⟩ .f32) (h9 : ∀ (c : Fin 28) (j : Fin 384), j.val = 96 + c.val → y9 (ix2 r c) = g j)
    (y10 : FVec Ideal ⟨2, ![256, 2]⟩ .f32) (h10 : ∀ (c : Fin 2) (j : Fin 384), j.val = 124 + c.val → y10 (ix2 r c) = g j)
    (y11 : FVec Ideal ⟨2, ![256, 2]⟩ .f32) (h11 : ∀ (c : Fin 2) (j : Fin 384), j.val = 126 + c.val → y11 (ix2 r c) = g j)
    (y12 : FVec Ideal ⟨2, ![256, 16]⟩ .f32) (h12 : ∀ (c : Fin 16) (j : Fin 384), j.val = 128 + c.val → y12 (ix2 r c) = g j)
    (y13 : FVec Ideal ⟨2, ![256, 16]⟩ .f32) (h13 : ∀ (c : Fin 16) (j : Fin 384), j.val = 144 + c.val → y13 (ix2 r c) = g j)
    (y14 : FVec Ideal ⟨2, ![256, 16]⟩ .f32) (h14 : ∀ (c : Fin 16) (j : Fin 384), j.val = 160 + c.val → y14 (ix2 r c) = g j)
    (y15 : FVec Ideal ⟨2, ![256, 16]⟩ .f32) (h15 : ∀ (c : Fin 16) (j : Fin 384), j.val = 176 + c.val → y15 (ix2 r c) = g j)
    (y16 : FVec Ideal ⟨2, ![256, 16]⟩ .f32) (h16 : ∀ (c : Fin 16) (j : Fin 384), j.val = 192 + c.val → y16 (ix2 r c) = g j)
    (y17 : FVec Ideal ⟨2, ![256, 16]⟩ .f32) (h17 : ∀ (c : Fin 16) (j : Fin 384), j.val = 208 + c.val → y17 (ix2 r c) = g j)
    (y18 : FVec Ideal ⟨2, ![256, 16]⟩ .f32) (h18 : ∀ (c : Fin 16) (j : Fin 384), j.val = 224 + c.val → y18 (ix2 r c) = g j)
    (y19 : FVec Ideal ⟨2, ![256, 16]⟩ .f32) (h19 : ∀ (c : Fin 16) (j : Fin 384), j.val = 240 + c.val → y19 (ix2 r c) = g j)
    (y20 : FVec Ideal ⟨2, ![256, 128]⟩ .f32) (h20 : ∀ (c : Fin 128) (j : Fin 384), j.val = 256 + c.val → y20 (ix2 r c) = g j) (hcat) (j : Fin 384) :
    concatenate ⟨2, ![256, 384]⟩ 1
        [⟨⟨2, ![256, 28]⟩, y0⟩, ⟨⟨2, ![256, 2]⟩, y1⟩, ⟨⟨2, ![256, 2]⟩, y2⟩, ⟨⟨2, ![256, 28]⟩, y3⟩, ⟨⟨2, ![256, 2]⟩, y4⟩, ⟨⟨2, ![256, 2]⟩, y5⟩, ⟨⟨2, ![256, 28]⟩, y6⟩, ⟨⟨2, ![256, 2]⟩, y7⟩, ⟨⟨2, ![256, 2]⟩, y8⟩, ⟨⟨2, ![256, 28]⟩, y9⟩, ⟨⟨2, ![256, 2]⟩, y10⟩, ⟨⟨2, ![256, 2]⟩, y11⟩, ⟨⟨2, ![256, 16]⟩, y12⟩, ⟨⟨2, ![256, 16]⟩, y13⟩, ⟨⟨2, ![256, 16]⟩, y14⟩, ⟨⟨2, ![256, 16]⟩, y15⟩, ⟨⟨2, ![256, 16]⟩, y16⟩, ⟨⟨2, ![256, 16]⟩, y17⟩, ⟨⟨2, ![256, 16]⟩, y18⟩, ⟨⟨2, ![256, 16]⟩, y19⟩, ⟨⟨2, ![256, 128]⟩, y20⟩] hcat (ix2 r j) = g j := by
  by_cases c0 : j.val < 28
  · have hc : j.val - 0 < 28 := by omega
    have hj : j.val = 0 + (j.val - 0) := by omega
    exact (cat2 _ _ 0 (by simp) y0 rfl 0 (by simp only [List.take_succ_cons, List.take_zero, before_cons, before_nil, Nat.reduceAdd]) r j ⟨j.val - 0, hc⟩ hj).trans (h0 ⟨j.val - 0, hc⟩ j hj)
  by_cases c1 : j.val < 30
  · have hc : j.val - 28 < 2 := by omega
    have hj : j.val = 28 + (j.val - 28) := by omega
    exact (cat2 _ _ 1 (by simp) y1 rfl 28 (by simp only [List.take_succ_cons, List.take_zero, before_cons, before_nil, Nat.reduceAdd]) r j ⟨j.val - 28, hc⟩ hj).trans (h1 ⟨j.val - 28, hc⟩ j hj)
  by_cases c2 : j.val < 32
  · have hc : j.val - 30 < 2 := by omega
    have hj : j.val = 30 + (j.val - 30) := by omega
    exact (cat2 _ _ 2 (by simp) y2 rfl 30 (by simp only [List.take_succ_cons, List.take_zero, before_cons, before_nil, Nat.reduceAdd]) r j ⟨j.val - 30, hc⟩ hj).trans (h2 ⟨j.val - 30, hc⟩ j hj)
  by_cases c3 : j.val < 60
  · have hc : j.val - 32 < 28 := by omega
    have hj : j.val = 32 + (j.val - 32) := by omega
    exact (cat2 _ _ 3 (by simp) y3 rfl 32 (by simp only [List.take_succ_cons, List.take_zero, before_cons, before_nil, Nat.reduceAdd]) r j ⟨j.val - 32, hc⟩ hj).trans (h3 ⟨j.val - 32, hc⟩ j hj)
  by_cases c4 : j.val < 62
  · have hc : j.val - 60 < 2 := by omega
    have hj : j.val = 60 + (j.val - 60) := by omega
    exact (cat2 _ _ 4 (by simp) y4 rfl 60 (by simp only [List.take_succ_cons, List.take_zero, before_cons, before_nil, Nat.reduceAdd]) r j ⟨j.val - 60, hc⟩ hj).trans (h4 ⟨j.val - 60, hc⟩ j hj)
  by_cases c5 : j.val < 64
  · have hc : j.val - 62 < 2 := by omega
    have hj : j.val = 62 + (j.val - 62) := by omega
    exact (cat2 _ _ 5 (by simp) y5 rfl 62 (by simp only [List.take_succ_cons, List.take_zero, before_cons, before_nil, Nat.reduceAdd]) r j ⟨j.val - 62, hc⟩ hj).trans (h5 ⟨j.val - 62, hc⟩ j hj)
  by_cases c6 : j.val < 92
  · have hc : j.val - 64 < 28 := by omega
    have hj : j.val = 64 + (j.val - 64) := by omega
    exact (cat2 _ _ 6 (by simp) y6 rfl 64 (by simp only [List.take_succ_cons, List.take_zero, before_cons, before_nil, Nat.reduceAdd]) r j ⟨j.val - 64, hc⟩ hj).trans (h6 ⟨j.val - 64, hc⟩ j hj)
  by_cases c7 : j.val < 94
  · have hc : j.val - 92 < 2 := by omega
    have hj : j.val = 92 + (j.val - 92) := by omega
    exact (cat2 _ _ 7 (by simp) y7 rfl 92 (by simp only [List.take_succ_cons, List.take_zero, before_cons, before_nil, Nat.reduceAdd]) r j ⟨j.val - 92, hc⟩ hj).trans (h7 ⟨j.val - 92, hc⟩ j hj)
  by_cases c8 : j.val < 96
  · have hc : j.val - 94 < 2 := by omega
    have hj : j.val = 94 + (j.val - 94) := by omega
    exact (cat2 _ _ 8 (by simp) y8 rfl 94 (by simp only [List.take_succ_cons, List.take_zero, before_cons, before_nil, Nat.reduceAdd]) r j ⟨j.val - 94, hc⟩ hj).trans (h8 ⟨j.val - 94, hc⟩ j hj)
  by_cases c9 : j.val < 124
  · have hc : j.val - 96 < 28 := by omega
    have hj : j.val = 96 + (j.val - 96) := by omega
    exact (cat2 _ _ 9 (by simp) y9 rfl 96 (by simp only [List.take_succ_cons, List.take_zero, before_cons, before_nil, Nat.reduceAdd]) r j ⟨j.val - 96, hc⟩ hj).trans (h9 ⟨j.val - 96, hc⟩ j hj)
  by_cases c10 : j.val < 126
  · have hc : j.val - 124 < 2 := by omega
    have hj : j.val = 124 + (j.val - 124) := by omega
    exact (cat2 _ _ 10 (by simp) y10 rfl 124 (by simp only [List.take_succ_cons, List.take_zero, before_cons, before_nil, Nat.reduceAdd]) r j ⟨j.val - 124, hc⟩ hj).trans (h10 ⟨j.val - 124, hc⟩ j hj)
  by_cases c11 : j.val < 128
  · have hc : j.val - 126 < 2 := by omega
    have hj : j.val = 126 + (j.val - 126) := by omega
    exact (cat2 _ _ 11 (by simp) y11 rfl 126 (by simp only [List.take_succ_cons, List.take_zero, before_cons, before_nil, Nat.reduceAdd]) r j ⟨j.val - 126, hc⟩ hj).trans (h11 ⟨j.val - 126, hc⟩ j hj)
  by_cases c12 : j.val < 144
  · have hc : j.val - 128 < 16 := by omega
    have hj : j.val = 128 + (j.val - 128) := by omega
    exact (cat2 _ _ 12 (by simp) y12 rfl 128 (by simp only [List.take_succ_cons, List.take_zero, before_cons, before_nil, Nat.reduceAdd]) r j ⟨j.val - 128, hc⟩ hj).trans (h12 ⟨j.val - 128, hc⟩ j hj)
  by_cases c13 : j.val < 160
  · have hc : j.val - 144 < 16 := by omega
    have hj : j.val = 144 + (j.val - 144) := by omega
    exact (cat2 _ _ 13 (by simp) y13 rfl 144 (by simp only [List.take_succ_cons, List.take_zero, before_cons, before_nil, Nat.reduceAdd]) r j ⟨j.val - 144, hc⟩ hj).trans (h13 ⟨j.val - 144, hc⟩ j hj)
  by_cases c14 : j.val < 176
  · have hc : j.val - 160 < 16 := by omega
    have hj : j.val = 160 + (j.val - 160) := by omega
    exact (cat2 _ _ 14 (by simp) y14 rfl 160 (by simp only [List.take_succ_cons, List.take_zero, before_cons, before_nil, Nat.reduceAdd]) r j ⟨j.val - 160, hc⟩ hj).trans (h14 ⟨j.val - 160, hc⟩ j hj)
  by_cases c15 : j.val < 192
  · have hc : j.val - 176 < 16 := by omega
    have hj : j.val = 176 + (j.val - 176) := by omega
    exact (cat2 _ _ 15 (by simp) y15 rfl 176 (by simp only [List.take_succ_cons, List.take_zero, before_cons, before_nil, Nat.reduceAdd]) r j ⟨j.val - 176, hc⟩ hj).trans (h15 ⟨j.val - 176, hc⟩ j hj)
  by_cases c16 : j.val < 208
  · have hc : j.val - 192 < 16 := by omega
    have hj : j.val = 192 + (j.val - 192) := by omega
    exact (cat2 _ _ 16 (by simp) y16 rfl 192 (by simp only [List.take_succ_cons, List.take_zero, before_cons, before_nil, Nat.reduceAdd]) r j ⟨j.val - 192, hc⟩ hj).trans (h16 ⟨j.val - 192, hc⟩ j hj)
  by_cases c17 : j.val < 224
  · have hc : j.val - 208 < 16 := by omega
    have hj : j.val = 208 + (j.val - 208) := by omega
    exact (cat2 _ _ 17 (by simp) y17 rfl 208 (by simp only [List.take_succ_cons, List.take_zero, before_cons, before_nil, Nat.reduceAdd]) r j ⟨j.val - 208, hc⟩ hj).trans (h17 ⟨j.val - 208, hc⟩ j hj)
  by_cases c18 : j.val < 240
  · have hc : j.val - 224 < 16 := by omega
    have hj : j.val = 224 + (j.val - 224) := by omega
    exact (cat2 _ _ 18 (by simp) y18 rfl 224 (by simp only [List.take_succ_cons, List.take_zero, before_cons, before_nil, Nat.reduceAdd]) r j ⟨j.val - 224, hc⟩ hj).trans (h18 ⟨j.val - 224, hc⟩ j hj)
  by_cases c19 : j.val < 256
  · have hc : j.val - 240 < 16 := by omega
    have hj : j.val = 240 + (j.val - 240) := by omega
    exact (cat2 _ _ 19 (by simp) y19 rfl 240 (by simp only [List.take_succ_cons, List.take_zero, before_cons, before_nil, Nat.reduceAdd]) r j ⟨j.val - 240, hc⟩ hj).trans (h19 ⟨j.val - 240, hc⟩ j hj)
  have hc : j.val - 256 < 128 := by omega
  have hj : j.val = 256 + (j.val - 256) := by omega
  exact (cat2 _ _ 20 (by simp) y20 rfl 256 (by simp only [List.take_succ_cons, List.take_zero, before_cons, before_nil, Nat.reduceAdd]) r j ⟨j.val - 256, hc⟩ hj).trans (h20 ⟨j.val - 256, hc⟩ j hj)

end Cert.Proof.Ladder
-- ==== Proof.Embed.lean ====
/- The embedding kernel's block: its rows' features, position features and embeddings are the reference's. -/
module

public import proofs.«01_k».proof.Proof.Gen.KernelIdeal.Frame
public import proofs.«01_k».proof.Proof.Pick
public import proofs.«01_k».proof.Proof.Features
public import proofs.«01_k».proof.Proof.Ladder
public import proofs.«01_k».proof.Proof.RefAttn
public import Idealize.ShloMosaic.Lib.Pipeline.ValueKit.Tiles

@[expose] public section

noncomputable section

namespace Cert.Proof.Embed

open Idealize.ShloMosaic Cert.KernelIdeal Cert.KernelIdeal.Gen Cert.Proof.Pick Cert.Proof.Cat Cert.Proof.Features Cert.Proof.RefAttn Cert.Proof.Ladder

/-! ## What the body loads -/

theorem zeros : (![0, 0] : Fin 2 → ℕ) = fun _ => 0 := by
  funext a
  match a with
  | ⟨0, _⟩ => rfl
  | ⟨1, _⟩ => rfl

theorem zeros1 : (![0] : Fin 1 → ℕ) = fun _ => 0 := by
  funext a
  match a with
  | ⟨0, _⟩ => rfl

/-- The table loaded whole. -/
theorem table {A B : ℕ} {e : EltTy} (inb) (x : Vec Ideal ⟨2, ![A, B]⟩ e) :
    View.ld x (Rect.unit (s := ⟨2, ![A, B]⟩) ![0, 0] (⟨2, ![A, B]⟩ : Shape).size inb) = x :=
  View.ld_unit_zero zeros inb x

/-- Column `k` of a block of row numbers. -/
theorem column (k : Fin 4) (inb) (x : Vec Ideal S256x4 .i32) (r : Fin 256) :
    (View.ld x (Rect.unit (s := S256x4) ![0, k.val] S256x1.size inb) : Vec Ideal S256x1 .i32) (ix2 r 0) = x (ix2 r k) := by
  refine View.ld_unit_apply_of _ _ _ _ _ _ ?_
  intro a
  match a with
  | ⟨0, _⟩ => exact (Nat.zero_add _).symm
  | ⟨1, _⟩ => rfl

/-- A one-hot product read at an entry: the table's row that column `k` names. -/
theorem looked {N C : ℕ} (hN : N < 2 ^ 31) (k : Fin 4) (inb) (inb') (x : Vec Ideal S256x4 .i32)
    (tab : Vec Ideal ⟨2, ![N, C]⟩ .f32) (h1) (h2) (h3) (h4) (h5) (r : Fin 256) (c : Fin C) (n : Fin N)
    (hn : x (ix2 r k) = BitVec.ofNat 32 n.val) :
    matmul (φ₂ := .f32) (DotDims.plain 256 N C) none
        (oneHot N (View.ld x (Rect.unit (s := S256x4) ![0, k.val] S256x1.size inb) : Vec Ideal S256x1 .i32) h1 h2 h3 h4 h5)
        (View.ld (Val := Elt Ideal) tab (Rect.unit (s := ⟨2, ![N, C]⟩) ![0, 0] (⟨2, ![N, C]⟩ : Shape).size inb'))
        (constant ⟨2, ![256, C]⟩ .f32 0x00000000#32) (ix2 r c)
      = tab (ix2 n c) :=
  (pick_apply hN _ _ h1 h2 h3 h4 h5 r c n ((column k inb x r).trans hn)).trans (congrFun (table inb' tab) _)

/-! ## The body's values -/

section

variable (a0 a1 a2 a3 a4 : IVec Cert.ReferenceIdeal.S2048x4x4 32) (a5 : FVec Ideal Cert.ReferenceIdeal.S2048x4x3 .f32)

/-- The blocks of one grid point hold, in row `r`, what row `s` of batch `b` holds. -/
structure Row (x0 x1 x2 x3 x4 : Vec Ideal S256x4 .i32) (x5 : Vec Ideal S256x3 .f32) (r : Fin 256) (s : Fin 2048) (b : Fin 4) :
    Prop where
  idx0 : ∀ k, x0 (ix2 r k) = a0 (ix3 s b k)
  idx1 : ∀ k, x1 (ix2 r k) = a1 (ix3 s b k)
  idx2 : ∀ k, x2 (ix2 r k) = a2 (ix3 s b k)
  idx3 : ∀ k, x3 (ix2 r k) = a3 (ix3 s b k)
  idx4 : ∀ k, x4 (ix2 r k) = a4 (ix3 s b k)
  pos : ∀ k, x5 (ix2 r k) = Cert.ReferenceIdeal.Read.val_main_v15 (F := Ideal) a5 (ix3 s b k)

/-- Every row number is one of its table's rows. -/
structure InRange : Prop where
  rows0 : ∀ i, ∃ n : Fin 256, a0 i = BitVec.ofNat 32 n.val
  rows1 : ∀ i, ∃ n : Fin 16, a1 i = BitVec.ofNat 32 n.val
  rows2 : ∀ i, ∃ n : Fin 8, a2 i = BitVec.ofNat 32 n.val
  rows3 : ∀ i, ∃ n : Fin 32, a3 i = BitVec.ofNat 32 n.val
  rows4 : ∀ i, ∃ n : Fin 2250, a4 i = BitVec.ofNat 32 n.val

variable (x0 x1 x2 x3 x4 : Vec Ideal S256x4 .i32) (x5 : Vec Ideal S256x3 .f32) (x6 : Vec Ideal S256x28 .f32)
  (x7 : Vec Ideal S16x2 .f32) (x8 : Vec Ideal S8x2 .f32) (x9 : Vec Ideal S32x16 .f32) (x10 : Vec Ideal S2250x16 .f32)
  (x11 : Vec Ideal S3x128 .f32) (x12 : Vec Ideal S384x256 .f32) (x13 : Vec Ideal S256 .f32) (x14 x15 x16 : Vec Ideal S256x256 .f32)
  (r : Fin 256) (s : Fin 2048) (b : Fin 4)

theorem pay30_apply (hrow : Row a0 a1 a2 a3 a4 a5 x0 x1 x2 x3 x4 x5 r s b) (f : Fin 128) :
    k1_pay30 x0 x1 x2 x3 x4 x5 x6 x7 x8 x9 x10 x11 x12 x13 x14 x15 x16 (ix2 r f)
      = Cert.ReferenceIdeal.Read.val_main_v16 (F := Ideal) a5 x11 (ix3 s b f) := by
  rw [v16_apply a5 x11 s b f]
  unfold k1_pay30
  rw [table, table]
  unfold k1_pay25
  simp only [pointwise, hrow.pos]
  try simp

theorem lookup0 (hin : InRange a0 a1 a2 a3 a4) (hrow : Row a0 a1 a2 a3 a4 a5 x0 x1 x2 x3 x4 x5 r s b) (k : Fin 4) (inb) (inb')
    (h1) (h2) (h3) (h4) (h5) (c : Fin 28) (j : Fin 384) (hj : j.val = 32 * k.val + c.val) :
    matmul (φ₂ := .f32) (DotDims.plain 256 256 28) none
        (oneHot 256 (View.ld x0 (Rect.unit (s := S256x4) ![0, k.val] S256x1.size inb) : Vec Ideal S256x1 .i32) h1 h2 h3 h4 h5)
        (View.ld (Val := Elt Ideal) x6 (Rect.unit (s := ⟨2, ![256, 28]⟩) ![0, 0] (⟨2, ![256, 28]⟩ : Shape).size inb'))
        (constant ⟨2, ![256, 28]⟩ .f32 0x00000000#32) (ix2 r c)
      = feats a0 a1 a2 a3 a4 a5 x6 x7 x8 x9 x10 x11 s b j := by
  obtain ⟨n, hn⟩ := hin.rows0 (ix3 s b k)
  exact (looked (by decide) k inb inb' x0 x6 h1 h2 h3 h4 h5 r c n ((hrow.idx0 k).trans hn)).trans
    (feat0 a0 a1 a2 a3 a4 a5 x6 x7 x8 x9 x10 x11 s b k j hin.rows0 c n hn hj).symm

theorem lookup1 (hin : InRange a0 a1 a2 a3 a4) (hrow : Row a0 a1 a2 a3 a4 a5 x0 x1 x2 x3 x4 x5 r s b) (k : Fin 4) (inb) (inb')
    (h1) (h2) (h3) (h4) (h5) (c : Fin 2) (j : Fin 384) (hj : j.val = 32 * k.val + (28 + c.val)) :
    matmul (φ₂ := .f32) (DotDims.plain 256 16 2) none
        (oneHot 16 (View.ld x1 (Rect.unit (s := S256x4) ![0, k.val] S256x1.size inb) : Vec Ideal S256x1 .i32) h1 h2 h3 h4 h5)
        (View.ld (Val := Elt Ideal) x7 (Rect.unit (s := ⟨2, ![16, 2]⟩) ![0, 0] (⟨2, ![16, 2]⟩ : Shape).size inb'))
        (constant ⟨2, ![256, 2]⟩ .f32 0x00000000#32) (ix2 r c)
      = feats a0 a1 a2 a3 a4 a5 x6 x7 x8 x9 x10 x11 s b j := by
  obtain ⟨n, hn⟩ := hin.rows1 (ix3 s b k)
  exact (looked (by decide) k inb inb' x1 x7 h1 h2 h3 h4 h5 r c n ((hrow.idx1 k).trans hn)).trans
    (feat1 a0 a1 a2 a3 a4 a5 x6 x7 x8 x9 x10 x11 s b k j hin.rows1 c n hn hj).symm

theorem lookup2 (hin : InRange a0 a1 a2 a3 a4) (hrow : Row a0 a1 a2 a3 a4 a5 x0 x1 x2 x3 x4 x5 r s b) (k : Fin 4) (inb) (inb')
    (h1) (h2) (h3) (h4) (h5) (c : Fin 2) (j : Fin 384) (hj : j.val = 32 * k.val + (30 + c.val)) :
    matmul (φ₂ := .f32) (DotDims.plain 256 8 2) none
        (oneHot 8 (View.ld x2 (Rect.unit (s := S256x4) ![0, k.val] S256x1.size inb) : Vec Ideal S256x1 .i32) h1 h2 h3 h4 h5)
        (View.ld (Val := Elt Ideal) x8 (Rect.unit (s := ⟨2, ![8, 2]⟩) ![0, 0] (⟨2, ![8, 2]⟩ : Shape).size inb'))
        (constant ⟨2, ![256, 2]⟩ .f32 0x00000000#32) (ix2 r c)
      = feats a0 a1 a2 a3 a4 a5 x6 x7 x8 x9 x10 x11 s b j := by
  obtain ⟨n, hn⟩ := hin.rows2 (ix3 s b k)
  exact (looked (by decide) k inb inb' x2 x8 h1 h2 h3 h4 h5 r c n ((hrow.idx2 k).trans hn)).trans
    (feat2 a0 a1 a2 a3 a4 a5 x6 x7 x8 x9 x10 x11 s b k j hin.rows2 c n hn hj).symm

theorem lookup3 (hin : InRange a0 a1 a2 a3 a4) (hrow : Row a0 a1 a2 a3 a4 a5 x0 x1 x2 x3 x4 x5 r s b) (k : Fin 4) (inb) (inb')
    (h1) (h2) (h3) (h4) (h5) (c : Fin 16) (j : Fin 384) (hj : j.val = 128 + (32 * k.val + c.val)) :
    matmul (φ₂ := .f32) (DotDims.plain 256 32 16) none
        (oneHot 32 (View.ld x3 (Rect.unit (s := S256x4) ![0, k.val] S256x1.size inb) : Vec Ideal S256x1 .i32) h1 h2 h3 h4 h5)
        (View.ld (Val := Elt Ideal) x9 (Rect.unit (s := ⟨2, ![32, 16]⟩) ![0, 0] (⟨2, ![32, 16]⟩ : Shape).size inb'))
        (constant ⟨2, ![256, 16]⟩ .f32 0x00000000#32) (ix2 r c)
      = feats a0 a1 a2 a3 a4 a5 x6 x7 x8 x9 x10 x11 s b j := by
  obtain ⟨n, hn⟩ := hin.rows3 (ix3 s b k)
  exact (looked (by decide) k inb inb' x3 x9 h1 h2 h3 h4 h5 r c n ((hrow.idx3 k).trans hn)).trans
    (feat3 a0 a1 a2 a3 a4 a5 x6 x7 x8 x9 x10 x11 s b k j hin.rows3 c n hn hj).symm

theorem lookup4 (hin : InRange a0 a1 a2 a3 a4) (hrow : Row a0 a1 a2 a3 a4 a5 x0 x1 x2 x3 x4 x5 r s b) (k : Fin 4) (inb) (inb')
    (h1) (h2) (h3) (h4) (h5) (c : Fin 16) (j : Fin 384) (hj : j.val = 128 + (32 * k.val + (16 + c.val))) :
    matmul (φ₂ := .f32) (DotDims.plain 256 2250 16) none
        (oneHot 2250 (View.ld x4 (Rect.unit (s := S256x4) ![0, k.val] S256x1.size inb) : Vec Ideal S256x1 .i32) h1 h2 h3 h4 h5)
        (View.ld (Val := Elt Ideal) x10 (Rect.unit (s := ⟨2, ![2250, 16]⟩) ![0, 0] (⟨2, ![2250, 16]⟩ : Shape).size inb'))
        (constant ⟨2, ![256, 16]⟩ .f32 0x00000000#32) (ix2 r c)
      = feats a0 a1 a2 a3 a4 a5 x6 x7 x8 x9 x10 x11 s b j := by
  obtain ⟨n, hn⟩ := hin.rows4 (ix3 s b k)
  exact (looked (by decide) k inb inb' x4 x10 h1 h2 h3 h4 h5 r c n ((hrow.idx4 k).trans hn)).trans
    (feat4 a0 a1 a2 a3 a4 a5 x6 x7 x8 x9 x10 x11 s b k j hin.rows4 c n hn hj).symm

set_option maxHeartbeats 1000000 in
theorem pieces (hin : InRange a0 a1 a2 a3 a4) (hrow : Row a0 a1 a2 a3 a4 a5 x0 x1 x2 x3 x4 x5 r s b) (j : Fin 384) :
    concatenate S256x384 1
        [⟨S256x28, k1_pay1 (View.ld x0 r1_0) (View.ld x6 r1_1)⟩,
          ⟨S256x2, k1_pay2 (View.ld x1 r1_0) (View.ld x7 r1_2)⟩,
          ⟨S256x2, k1_pay3 (View.ld x2 r1_0) (View.ld x8 r1_3)⟩,
          ⟨S256x28, k1_pay5 (k1_pay4 (View.ld x0 r1_4)) (View.ld x6 r1_1) (constant S256x28 FTy.f32 0#32)⟩,
          ⟨S256x2, k1_pay6 (View.ld x1 r1_4) (View.ld x7 r1_2)⟩,
          ⟨S256x2, k1_pay7 (View.ld x2 r1_4) (View.ld x8 r1_3)⟩,
          ⟨S256x28, k1_pay8 (View.ld x0 r1_5) (View.ld x6 r1_1)⟩,
          ⟨S256x2, k1_pay10 (k1_pay9 (View.ld x1 r1_5)) (View.ld x7 r1_2) (constant S256x2 FTy.f32 0#32)⟩,
          ⟨S256x2, k1_pay11 (View.ld x2 r1_5) (View.ld x8 r1_3)⟩,
          ⟨S256x28, k1_pay12 (View.ld x0 r1_6) (View.ld x6 r1_1)⟩,
          ⟨S256x2, k1_pay13 (View.ld x1 r1_6) (View.ld x7 r1_2)⟩,
          ⟨S256x2, k1_pay15 (k1_pay14 (View.ld x2 r1_6)) (View.ld x8 r1_3) (constant S256x2 FTy.f32 0#32)⟩,
          ⟨S256x16, k1_pay16 (View.ld x3 r1_0) (View.ld x9 r1_7)⟩,
          ⟨S256x16, k1_pay17 (View.ld x4 r1_0) (View.ld x10 r1_8)⟩,
          ⟨S256x16, k1_pay18 (View.ld x3 r1_4) (View.ld x9 r1_7)⟩,
          ⟨S256x16, k1_pay20 (k1_pay19 (View.ld x4 r1_4)) (View.ld x10 r1_8) (constant S256x16 FTy.f32 0#32)⟩,
          ⟨S256x16, k1_pay21 (View.ld x3 r1_5) (View.ld x9 r1_7)⟩,
          ⟨S256x16, k1_pay22 (View.ld x4 r1_5) (View.ld x10 r1_8)⟩,
          ⟨S256x16, k1_pay23 (View.ld x3 r1_6) (View.ld x9 r1_7)⟩,
          ⟨S256x16, matmul (φ₂ := .f32) dot_S256x2250_S2250x16_S256x16_1_0_0_1_n_n none (k1_pay24 (View.ld x4 r1_6)) (View.ld x10 r1_8) (constant S256x16 FTy.f32 0#32)⟩,
          ⟨S256x128, k1_pay30 x0 x1 x2 x3 x4 x5 x6 x7 x8 x9 x10 x11 x12 x13 x14 x15 x16⟩]
        concatenates_S256x28_S256x2_S256x2_S256x28_S256x2_S256x2_S256x28_S256x2_S256x2_S256x28_S256x2_S256x2_S256x16_S256x16_S256x16_S256x16_S256x16_S256x16_S256x16_S256x16_S256x128_S256x384_d1
        (ix2 r j)
      = feats a0 a1 a2 a3 a4 a5 x6 x7 x8 x9 x10 x11 s b j := by
  refine ladder (fun j => feats a0 a1 a2 a3 a4 a5 x6 x7 x8 x9 x10 x11 s b j) r
    _ (fun c j hj => lookup0 a0 a1 a2 a3 a4 a5 x0 x1 x2 x3 x4 x5 x6 x7 x8 x9 x10 x11 r s b hin hrow 0 _ _ _ _ _ _ _ c j (by dsimp; omega))
    _ (fun c j hj => lookup1 a0 a1 a2 a3 a4 a5 x0 x1 x2 x3 x4 x5 x6 x7 x8 x9 x10 x11 r s b hin hrow 0 _ _ _ _ _ _ _ c j (by dsimp; omega))
    _ (fun c j hj => lookup2 a0 a1 a2 a3 a4 a5 x0 x1 x2 x3 x4 x5 x6 x7 x8 x9 x10 x11 r s b hin hrow 0 _ _ _ _ _ _ _ c j (by dsimp; omega))
    _ (fun c j hj => lookup0 a0 a1 a2 a3 a4 a5 x0 x1 x2 x3 x4 x5 x6 x7 x8 x9 x10 x11 r s b hin hrow 1 _ _ _ _ _ _ _ c j (by dsimp; omega))
    _ (fun c j hj => lookup1 a0 a1 a2 a3 a4 a5 x0 x1 x2 x3 x4 x5 x6 x7 x8 x9 x10 x11 r s b hin hrow 1 _ _ _ _ _ _ _ c j (by dsimp; omega))
    _ (fun c j hj => lookup2 a0 a1 a2 a3 a4 a5 x0 x1 x2 x3 x4 x5 x6 x7 x8 x9 x10 x11 r s b hin hrow 1 _ _ _ _ _ _ _ c j (by dsimp; omega))
    _ (fun c j hj => lookup0 a0 a1 a2 a3 a4 a5 x0 x1 x2 x3 x4 x5 x6 x7 x8 x9 x10 x11 r s b hin hrow 2 _ _ _ _ _ _ _ c j (by dsimp; omega))
    _ (fun c j hj => lookup1 a0 a1 a2 a3 a4 a5 x0 x1 x2 x3 x4 x5 x6 x7 x8 x9 x10 x11 r s b hin hrow 2 _ _ _ _ _ _ _ c j (by dsimp; omega))
    _ (fun c j hj => lookup2 a0 a1 a2 a3 a4 a5 x0 x1 x2 x3 x4 x5 x6 x7 x8 x9 x10 x11 r s b hin hrow 2 _ _ _ _ _ _ _ c j (by dsimp; omega))
    _ (fun c j hj => lookup0 a0 a1 a2 a3 a4 a5 x0 x1 x2 x3 x4 x5 x6 x7 x8 x9 x10 x11 r s b hin hrow 3 _ _ _ _ _ _ _ c j (by dsimp; omega))
    _ (fun c j hj => lookup1 a0 a1 a2 a3 a4 a5 x0 x1 x2 x3 x4 x5 x6 x7 x8 x9 x10 x11 r s b hin hrow 3 _ _ _ _ _ _ _ c j (by dsimp; omega))
    _ (fun c j hj => lookup2 a0 a1 a2 a3 a4 a5 x0 x1 x2 x3 x4 x5 x6 x7 x8 x9 x10 x11 r s b hin hrow 3 _ _ _ _ _ _ _ c j (by dsimp; omega))
    _ (fun c j hj => lookup3 a0 a1 a2 a3 a4 a5 x0 x1 x2 x3 x4 x5 x6 x7 x8 x9 x10 x11 r s b hin hrow 0 _ _ _ _ _ _ _ c j (by dsimp; omega))
    _ (fun c j hj => lookup4 a0 a1 a2 a3 a4 a5 x0 x1 x2 x3 x4 x5 x6 x7 x8 x9 x10 x11 r s b hin hrow 0 _ _ _ _ _ _ _ c j (by dsimp; omega))
    _ (fun c j hj => lookup3 a0 a1 a2 a3 a4 a5 x0 x1 x2 x3 x4 x5 x6 x7 x8 x9 x10 x11 r s b hin hrow 1 _ _ _ _ _ _ _ c j (by dsimp; omega))
    _ (fun c j hj => lookup4 a0 a1 a2 a3 a4 a5 x0 x1 x2 x3 x4 x5 x6 x7 x8 x9 x10 x11 r s b hin hrow 1 _ _ _ _ _ _ _ c j (by dsimp; omega))
    _ (fun c j hj => lookup3 a0 a1 a2 a3 a4 a5 x0 x1 x2 x3 x4 x5 x6 x7 x8 x9 x10 x11 r s b hin hrow 2 _ _ _ _ _ _ _ c j (by dsimp; omega))
    _ (fun c j hj => lookup4 a0 a1 a2 a3 a4 a5 x0 x1 x2 x3 x4 x5 x6 x7 x8 x9 x10 x11 r s b hin hrow 2 _ _ _ _ _ _ _ c j (by dsimp; omega))
    _ (fun c j hj => lookup3 a0 a1 a2 a3 a4 a5 x0 x1 x2 x3 x4 x5 x6 x7 x8 x9 x10 x11 r s b hin hrow 3 _ _ _ _ _ _ _ c j (by dsimp; omega))
    _ (fun c j hj => lookup4 a0 a1 a2 a3 a4 a5 x0 x1 x2 x3 x4 x5 x6 x7 x8 x9 x10 x11 r s b hin hrow 3 _ _ _ _ _ _ _ c j (by dsimp; omega))
    _ (fun c j hj => (pay30_apply a0 a1 a2 a3 a4 a5 x0 x1 x2 x3 x4 x5 x6 x7 x8 x9 x10 x11 x12 x13 x14 x15 x16 r s b hrow c).trans (right a0 a1 a2 a3 a4 a5 x6 x7 x8 x9 x10 x11 s b c j hj).symm)
    _ j

theorem pay31_apply (hin : InRange a0 a1 a2 a3 a4) (hrow : Row a0 a1 a2 a3 a4 a5 x0 x1 x2 x3 x4 x5 r s b) (f : Fin 256) :
    k1_pay31 x0 x1 x2 x3 x4 x5 x6 x7 x8 x9 x10 x11 x12 x13 x14 x15 x16 (ix2 r f)
      = embed a0 a1 a2 a3 a4 a5 x6 x7 x8 x9 x10 x11 x12 x13 b s f := by
  unfold embed
  rw [v25_apply a0 a1 a2 a3 a4 a5 x6 x7 x8 x9 x10 x11 x12 x13 s b f]
  have key := fun j : Fin 384 => pieces a0 a1 a2 a3 a4 a5 x0 x1 x2 x3 x4 x5 x6 x7 x8 x9 x10 x11 x12 x13 x14 x15 x16 r s b hin hrow j
  unfold k1_pay31
  generalize concatenate S256x384 1 _ _ = y at key ⊢
  rw [show View.ld x12 r1_11 = x12 from table _ x12, show View.ld x13 r1_12 = x13 from View.ld_unit_zero zeros1 _ x13]
  unfold k1_pay26
  simp only [pointwise, key]
  try simp

end

end Cert.Proof.Embed
-- ==== Proof.AttnOut.lean ====
/- The attention kernel's stored block is the reference's result: the rows it marks are the sixteen nearest, and the softmax
   over all keys with the others at `⊥` is the softmax over those sixteen. -/
module

public import proofs.«01_k».proof.Proof.Gen.KernelIdeal.Frame
public import proofs.«01_k».proof.Proof.AttnBlock
public import proofs.«01_k».proof.Proof.Reals
public import proofs.«01_k».proof.Proof.Norm
public import proofs.«01_k».proof.Proof.Embed

@[expose] public section

noncomputable section

namespace Cert.Proof.AttnOut

open Idealize.ShloMosaic Cert.KernelIdeal Cert.KernelIdeal.Gen
open Cert.Proof.Order Cert.Proof.Select Cert.Proof.Rounds Cert.Proof.AttnBlock Cert.Proof.RefAttn Cert.Proof.Pre Cert.Proof.Reals

/-- The logits' two scalings agree: by a sixteenth, and by the root of 256. -/
theorem scale_eq (x : EReal) :
    x * Ideal.ofBits .f32 0x3D800000#32 = Ideal.div x (Ideal.sqrt (Ideal.ofBits .f32 0x43800000#32)) := by
  have h1 : Ideal.ofBits .f32 0x3D800000#32 = ((1 / 16 : ℝ) : EReal) := by
    simp [Ideal.ofBits, Ideal.ieee, -EReal.coe_mul]; norm_num
  have h2 : Ideal.ofBits .f32 0x43800000#32 = ((256 : ℝ) : EReal) := by
    simp [Ideal.ofBits, Ideal.ieee, -EReal.coe_mul]; norm_num
  have h3 : Ideal.sqrt ((256 : ℝ) : EReal) = ((16 : ℝ) : EReal) := by
    show (if (256 : ℝ) < 0 then ⊥ else ((Real.sqrt 256 : ℝ) : EReal)) = _
    rw [if_neg (by norm_num), show (256 : ℝ) = 16 ^ 2 by norm_num, Real.sqrt_sq (by norm_num)]
  rw [h1, h2, h3, Ideal.div_coe (by norm_num)]

/-- The stored block, its loads and rounds read off. -/
theorem out_eq (p : Vec Ideal S1x256x128 .f32) (pk : Vec Ideal S1x2048x128 .f32) (q : Vec Ideal S1x256x256 .f32)
    (k v : Vec Ideal S1x2048x256 .f32) (e : Vec Ideal S1x256x256 .f32) (wo : Vec Ideal S256x256 .f32) :
    out2_7 p pk q k v e wo = k2_pay1 (mask (k2_pay2 p pk) 16) (k2_pay27 q) k v wo e := by
  unfold out2_7 k2_pay29 k2_pay28
  rw [show View.ld p r2_0 = p from View.ld_unit_zero Norm.zeros3 _ p,
    show View.ld pk r2_1 = pk from View.ld_unit_zero Norm.zeros3 _ pk,
    show View.ld q r2_2 = q from View.ld_unit_zero Norm.zeros3 _ q,
    show View.ld k r2_3 = k from View.ld_unit_zero Norm.zeros3 _ k,
    show View.ld v r2_3 = v from View.ld_unit_zero Norm.zeros3 _ v,
    show View.ld e r2_2 = e from View.ld_unit_zero Norm.zeros3 _ e,
    show View.ld wo r2_4 = wo from View.ld_unit_zero Embed.zeros _ wo, printed_marks]
  exact View.canon_unit_zero Norm.zeros3 _ _

section

variable (x0 x1 x2 x3 x4 : IVec Cert.ReferenceIdeal.S2048x4x4 32) (x5 : FVec Ideal Cert.ReferenceIdeal.S2048x4x3 .f32)
  (x6 : FVec Ideal S256x28 .f32) (x7 : FVec Ideal S16x2 .f32) (x8 : FVec Ideal S8x2 .f32) (x9 : FVec Ideal S32x16 .f32)
  (x10 : FVec Ideal S2250x16 .f32) (x11 : FVec Ideal S3x128 .f32) (x12 : FVec Ideal S384x256 .f32) (x13 : FVec Ideal S256 .f32)
  (x14 x15 x16 x17 : FVec Ideal S256x256 .f32)

/-- The blocks of one grid point hold, in row `r`, what query `s` of batch `b` holds, and batch `b`'s keys and values. -/
structure Row (p : Vec Ideal S1x256x128 .f32) (pk : Vec Ideal S1x2048x128 .f32) (q : Vec Ideal S1x256x256 .f32)
    (k v : Vec Ideal S1x2048x256 .f32) (e : Vec Ideal S1x256x256 .f32) (r : Fin 256) (s : Fin 2048) (b : Fin 4) : Prop where
  pos : ∀ c, p (ix3 0 r c) = Cert.ReferenceIdeal.Read.val_main_v16 (F := Ideal) x5 x11 (ix3 s b c)
  keyPos : ∀ j c, pk (ix3 0 j c) = Cert.ReferenceIdeal.Read.val_main_v16 (F := Ideal) x5 x11 (ix3 j b c)
  query : ∀ c, q (ix3 0 r c) = proj (embed x0 x1 x2 x3 x4 x5 x6 x7 x8 x9 x10 x11 x12 x13 b s) x14 c
  key : ∀ j c, k (ix3 0 j c) = proj (embed x0 x1 x2 x3 x4 x5 x6 x7 x8 x9 x10 x11 x12 x13 b j) x15 c
  value : ∀ j c, v (ix3 0 j c) = proj (embed x0 x1 x2 x3 x4 x5 x6 x7 x8 x9 x10 x11 x12 x13 b j) x16 c
  own : ∀ c, e (ix3 0 r c) = embed x0 x1 x2 x3 x4 x5 x6 x7 x8 x9 x10 x11 x12 x13 b s c

variable (hpre : Holds x0 x1 x2 x3 x4 x5 x6 x7 x8 x9 x10 x11 x12 x13 x14 x15)
  (p : Vec Ideal S1x256x128 .f32) (pk : Vec Ideal S1x2048x128 .f32) (q : Vec Ideal S1x256x256 .f32)
  (k v : Vec Ideal S1x2048x256 .f32) (e : Vec Ideal S1x256x256 .f32) (r : Fin 256) (s : Fin 2048) (b : Fin 4)
  (hrow : Row x0 x1 x2 x3 x4 x5 x6 x7 x8 x9 x10 x11 x12 x13 x14 x15 x16 p pk q k v e r s b)

include hpre hrow

/-- Key `nth i` is marked, and no other. -/
theorem marked (i : Fin 2048) :
    mask (k2_pay2 p pk) 16 (ix2 r (order (near x5 x11 b s) i)) = 1#1 ↔ i.val < 16 := by
  rw [mask_apply]
  have hd : row (k2_pay2 p pk) r = near x5 x11 b s := by
    funext j
    refine (pay2_apply p pk r j).trans ?_
    refine Eq.trans ?_ (v38_apply x5 x11 b s j).symm
    exact congrArg₂ sqDist (funext fun c => hrow.pos c) (funext fun c => hrow.keyPos j c)
  rw [hd]
  have hK : 16 < 2048 := by omega
  have hlt := hpre.apart b s
  exact taken_sorted (d := near x5 x11 b s) (σ := order (near x5 x11 b s)) (K := 16) (order_injective _) (order_surjective _) hK
    hlt i

theorem out_apply (f : Fin 256) :
    out2_7 p pk q k v e x17 (ix3 0 r f)
      = Cert.ReferenceIdeal.Read.val_main_v67 (F := Ideal) x0 x1 x2 x3 x4 x5 x6 x7 x8 x9 x10 x11 x12 x13 x14 x15 x16 x17
          (ix3 b s f) := by
  have hm := marked x0 x1 x2 x3 x4 x5 x6 x7 x8 x9 x10 x11 x12 x13 x14 x15 x16 hpre p pk q k v e r s b hrow
  rw [out_eq]
  generalize mask (k2_pay2 p pk) 16 = m at hm ⊢
  have hq : ∀ t, k2_pay27 q (ix2 r t) = proj (embed x0 x1 x2 x3 x4 x5 x6 x7 x8 x9 x10 x11 x12 x13 b s) x14 t := by
    intro t
    refine Eq.trans ?_ (hrow.query t)
    unfold k2_pay27
    simp only [pointwise]
  refine (pay1_apply m (k2_pay27 q) k v x17 e r f).trans ?_
  refine Eq.trans ?_ (v67_apply x0 x1 x2 x3 x4 x5 x6 x7 x8 x9 x10 x11 x12 x13 x14 x15 x16 x17 b s f).symm
  refine congrArg₂ (· + ·) (Finset.sum_congr rfl fun c _ => congrArg (· * x17 (ix2 c f)) ?_) (hrow.own f)
  have hscore : ∀ i : Fin 16, score (m (ix2 r (nth x5 x11 b s i))) (fun t => k2_pay27 q (ix2 r t))
      (fun t => k (ix3 0 (nth x5 x11 b s i) t))
      = (∑ t, proj (embed x0 x1 x2 x3 x4 x5 x6 x7 x8 x9 x10 x11 x12 x13 b s) x14 t
          * proj (embed x0 x1 x2 x3 x4 x5 x6 x7 x8 x9 x10 x11 x12 x13 b (nth x5 x11 b s i)) x15 t)
        * Ideal.ofBits .f32 0x3D800000#32 := by
    intro i
    unfold score
    rw [if_pos ((hm (i.castLE (by decide))).2 i.isLt)]
    exact congrArg (· * _) (Finset.sum_congr rfl fun t _ => congrArg₂ (· * ·) (hq t) (hrow.key _ t))
  have hsixteenth : IsReal (Ideal.ofBits .f32 0x3D800000#32) :=
    ⟨1 / 16, by simp [Ideal.ofBits, Ideal.ieee, -EReal.coe_mul]; norm_num⟩
  refine (attend_along (τ := nth x5 x11 b s) (fun i j hij => Fin.castLE_injective _ (order_injective _ hij)) (by decide)
    (fun j => score (m (ix2 r j)) (fun t => k2_pay27 q (ix2 r t)) fun t => k (ix3 0 j t)) (fun j => v (ix3 0 j c)) ?_ ?_).trans ?_
  · intro j hj
    obtain ⟨i, rfl⟩ := order_surjective (near x5 x11 b s) j
    show score _ _ _ = ⊥
    unfold score
    rw [if_neg]
    intro h1
    exact hj ⟨i.val, (hm i).1 h1⟩ rfl
  · intro i
    show IsReal _
    rw [hscore i]
    exact IsReal.mul (IsReal.sum fun t => IsReal.mul
      (q_real x0 x1 x2 x3 x4 x5 x6 x7 x8 x9 x10 x11 x12 x13 x14 x15 hpre b s t)
      (k_real x0 x1 x2 x3 x4 x5 x6 x7 x8 x9 x10 x11 x12 x13 x14 x15 hpre b _ t)) hsixteenth
  · refine congrArg₂ attend (funext fun i => ?_) (funext fun i => hrow.value _ c)
    exact (hscore i).trans (scale_eq _)

end

end Cert.Proof.AttnOut
-- ==== Proof.EmbedOut.lean ====
/- The embedding kernel's five stored blocks, read at an entry. -/
module

public import proofs.«01_k».proof.Proof.Embed

@[expose] public section

noncomputable section

namespace Cert.Proof.EmbedOut

open Idealize.ShloMosaic Cert.KernelIdeal Cert.KernelIdeal.Gen Cert.Proof.RefAttn Cert.Proof.Embed

variable (a0 a1 a2 a3 a4 : IVec Cert.ReferenceIdeal.S2048x4x4 32) (a5 : FVec Ideal Cert.ReferenceIdeal.S2048x4x3 .f32)

variable (x0 x1 x2 x3 x4 : Vec Ideal S256x4 .i32) (x5 : Vec Ideal S256x3 .f32) (x6 : Vec Ideal S256x28 .f32)
  (x7 : Vec Ideal S16x2 .f32) (x8 : Vec Ideal S8x2 .f32) (x9 : Vec Ideal S32x16 .f32) (x10 : Vec Ideal S2250x16 .f32)
  (x11 : Vec Ideal S3x128 .f32) (x12 : Vec Ideal S384x256 .f32) (x13 : Vec Ideal S256 .f32) (x14 x15 x16 : Vec Ideal S256x256 .f32)
  (r : Fin 256) (s : Fin 2048) (b : Fin 4)

/-- A whole-block store is the block. -/
theorem stored {A B : ℕ} (inb) (w : Vec Ideal ⟨2, ![A, B]⟩ .f32) :
    View.canon [⟨Rect.unit (s := ⟨2, ![A, B]⟩) ![0, 0] (⟨2, ![A, B]⟩ : Shape).size inb, w⟩] = w :=
  View.canon_unit_zero zeros inb w

theorem pn_apply (hrow : Row a0 a1 a2 a3 a4 a5 x0 x1 x2 x3 x4 x5 r s b) (f : Fin 128) :
    out1_21 x0 x1 x2 x3 x4 x5 x6 x7 x8 x9 x10 x11 x12 x13 x14 x15 x16 (ix2 r f) = Cert.ReferenceIdeal.Read.val_main_v16 (F := Ideal) a5 x11 (ix3 s b f) :=
  (congrFun (stored _ _) _).trans (pay30_apply a0 a1 a2 a3 a4 a5 x0 x1 x2 x3 x4 x5 x6 x7 x8 x9 x10 x11 x12 x13 x14 x15 x16 r s b hrow f)

section

variable (hin : InRange a0 a1 a2 a3 a4) (hrow : Row a0 a1 a2 a3 a4 a5 x0 x1 x2 x3 x4 x5 r s b)
include hin hrow

theorem e_apply (f : Fin 256) :
    out1_17 x0 x1 x2 x3 x4 x5 x6 x7 x8 x9 x10 x11 x12 x13 x14 x15 x16 (ix2 r f) = embed a0 a1 a2 a3 a4 a5 x6 x7 x8 x9 x10 x11 x12 x13 b s f :=
  (congrFun (stored _ _) _).trans (pay31_apply a0 a1 a2 a3 a4 a5 x0 x1 x2 x3 x4 x5 x6 x7 x8 x9 x10 x11 x12 x13 x14 x15 x16 r s b hin hrow f)

theorem q_apply (f : Fin 256) :
    out1_18 x0 x1 x2 x3 x4 x5 x6 x7 x8 x9 x10 x11 x12 x13 x14 x15 x16 (ix2 r f) = proj (embed a0 a1 a2 a3 a4 a5 x6 x7 x8 x9 x10 x11 x12 x13 b s) x14 f := by
  refine (congrFun (stored _ _) _).trans ?_
  have h := pay31_apply a0 a1 a2 a3 a4 a5 x0 x1 x2 x3 x4 x5 x6 x7 x8 x9 x10 x11 x12 x13 x14 x15 x16 r s b hin hrow
  generalize k1_pay31 x0 x1 x2 x3 x4 x5 x6 x7 x8 x9 x10 x11 x12 x13 x14 x15 x16 = y at h ⊢
  rw [show View.ld x14 r1_13 = x14 from table _ x14]
  unfold k1_pay27 proj
  simp only [pointwise, h]
  try simp

theorem k_apply (f : Fin 256) :
    out1_19 x0 x1 x2 x3 x4 x5 x6 x7 x8 x9 x10 x11 x12 x13 x14 x15 x16 (ix2 r f) = proj (embed a0 a1 a2 a3 a4 a5 x6 x7 x8 x9 x10 x11 x12 x13 b s) x15 f :=
  q_apply a0 a1 a2 a3 a4 a5 x0 x1 x2 x3 x4 x5 x6 x7 x8 x9 x10 x11 x12 x13 x15 x15 x16 r s b hin hrow f

theorem v_apply (f : Fin 256) :
    out1_20 x0 x1 x2 x3 x4 x5 x6 x7 x8 x9 x10 x11 x12 x13 x14 x15 x16 (ix2 r f) = proj (embed a0 a1 a2 a3 a4 a5 x6 x7 x8 x9 x10 x11 x12 x13 b s) x16 f :=
  q_apply a0 a1 a2 a3 a4 a5 x0 x1 x2 x3 x4 x5 x6 x7 x8 x9 x10 x11 x12 x13 x16 x15 x16 r s b hin hrow f

end

end Cert.Proof.EmbedOut
-- ==== Proof.Host.lean ====
/- What the kernel's host operations leave: each index array transposed and flattened to one row per (batch, row) pair, the
   normalised positions likewise, and the embedding kernel's results cut into batches again. -/
module

public import proofs.«01_k».proof.Proof.Gen.KernelIdeal.Frame
public import Idealize.ShloMosaic.Lib.Pointwise
public import Idealize.ShloMosaic.Lib.Claim

@[expose] public section

noncomputable section

namespace Cert.Proof.Host

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

/-- Row `s` of batch `b`, flattened. -/
def flat (b : Fin 4) (s : Fin 2048) : Fin 8192 := ⟨b.val * 2048 + s.val, by omega⟩

/-- An array transposed and flattened, read at a row. -/
theorem flattened {α : Type} {K : ℕ} (x : (⟨3, ![2048, 4, K]⟩ : Shape).Idx → α) (h1) (h2) (b : Fin 4) (s : Fin 2048) (k : Fin K) :
    shapeCast ⟨2, ![8192, K]⟩ (transpose ⟨3, ![4, 2048, K]⟩ [1, 0, 2] x h1) h2 (ix2 (flat b s) k) = x (ix3 s b k) := by
  refine (shapeCast_apply _ _ _ (ix3 b s k) ?_).trans (transpose_apply _ _ _ _ _ ?_)
  · rw [Shape.rowMajor_val_three, Shape.rowMajor_val_two]
    rfl
  · intro a
    match a with
    | ⟨0, _⟩ => rfl
    | ⟨1, _⟩ => rfl
    | ⟨2, _⟩ => rfl

/-- A flat array cut into batches, read at a row. -/
theorem cut {α : Type} {K : ℕ} (x : (⟨2, ![8192, K]⟩ : Shape).Idx → α) (h) (b : Fin 4) (s : Fin 2048) (k : Fin K) :
    shapeCast ⟨3, ![4, 2048, K]⟩ x h (ix3 b s k) = x (ix2 (flat b s) k) := by
  refine shapeCast_apply _ _ _ _ ?_
  rw [Shape.rowMajor_val_three, Shape.rowMajor_val_two]
  rfl

theorem rows0 (b : Fin 4) (s : Fin 2048) (k : Fin 4) :
    (V3 m ρ c main_call0_v1 : Vec Ideal S8192x4 .i32) (ix2 (flat b s) k)
      = (m ((c : Thread nD τ).loc main_arg0) : Vec Ideal S2048x4x4 .i32) (ix3 s b k) := by
  have h : (V3 m ρ c main_call0_v1 : Vec Ideal S8192x4 .i32)
      = shapeCast S8192x4 (transpose S4x2048x4 [1, 0, 2] (m ((c : Thread nD τ).loc main_arg0)) transposes_S2048x4x4_S4x2048x4_1_0_2)
          shapeCasts_S4x2048x4_S8192x4 := by
    refine (W3_of m ρ c main_call0_v1 (by decide)).trans ((W2_of m ρ c main_call0_v1 (by decide)).trans ?_)
    show StableHlo.after hostOps0 (W0 m ρ c) (Proc.devRef .tc main_call0_v1) = _
    after_results
    rfl
  exact (congrFun h _).trans (flattened _ _ _ b s k)

theorem rows1 (b : Fin 4) (s : Fin 2048) (k : Fin 4) :
    (V3 m ρ c main_call0_v3 : Vec Ideal S8192x4 .i32) (ix2 (flat b s) k)
      = (m ((c : Thread nD τ).loc main_arg1) : Vec Ideal S2048x4x4 .i32) (ix3 s b k) := by
  have h : (V3 m ρ c main_call0_v3 : Vec Ideal S8192x4 .i32)
      = shapeCast S8192x4 (transpose S4x2048x4 [1, 0, 2] (m ((c : Thread nD τ).loc main_arg1)) transposes_S2048x4x4_S4x2048x4_1_0_2)
          shapeCasts_S4x2048x4_S8192x4 := by
    refine (W3_of m ρ c main_call0_v3 (by decide)).trans ((W2_of m ρ c main_call0_v3 (by decide)).trans ?_)
    show StableHlo.after hostOps0 (W0 m ρ c) (Proc.devRef .tc main_call0_v3) = _
    after_results
    rfl
  exact (congrFun h _).trans (flattened _ _ _ b s k)

theorem rows2 (b : Fin 4) (s : Fin 2048) (k : Fin 4) :
    (V3 m ρ c main_call0_v5 : Vec Ideal S8192x4 .i32) (ix2 (flat b s) k)
      = (m ((c : Thread nD τ).loc main_arg2) : Vec Ideal S2048x4x4 .i32) (ix3 s b k) := by
  have h : (V3 m ρ c main_call0_v5 : Vec Ideal S8192x4 .i32)
      = shapeCast S8192x4 (transpose S4x2048x4 [1, 0, 2] (m ((c : Thread nD τ).loc main_arg2)) transposes_S2048x4x4_S4x2048x4_1_0_2)
          shapeCasts_S4x2048x4_S8192x4 := by
    refine (W3_of m ρ c main_call0_v5 (by decide)).trans ((W2_of m ρ c main_call0_v5 (by decide)).trans ?_)
    show StableHlo.after hostOps0 (W0 m ρ c) (Proc.devRef .tc main_call0_v5) = _
    after_results
    rfl
  exact (congrFun h _).trans (flattened _ _ _ b s k)

theorem rows3 (b : Fin 4) (s : Fin 2048) (k : Fin 4) :
    (V3 m ρ c main_call0_v7 : Vec Ideal S8192x4 .i32) (ix2 (flat b s) k)
      = (m ((c : Thread nD τ).loc main_arg3) : Vec Ideal S2048x4x4 .i32) (ix3 s b k) := by
  have h : (V3 m ρ c main_call0_v7 : Vec Ideal S8192x4 .i32)
      = shapeCast S8192x4 (transpose S4x2048x4 [1, 0, 2] (m ((c : Thread nD τ).loc main_arg3)) transposes_S2048x4x4_S4x2048x4_1_0_2)
          shapeCasts_S4x2048x4_S8192x4 := by
    refine (W3_of m ρ c main_call0_v7 (by decide)).trans ((W2_of m ρ c main_call0_v7 (by decide)).trans ?_)
    show StableHlo.after hostOps0 (W0 m ρ c) (Proc.devRef .tc main_call0_v7) = _
    after_results
    rfl
  exact (congrFun h _).trans (flattened _ _ _ b s k)

theorem rows4 (b : Fin 4) (s : Fin 2048) (k : Fin 4) :
    (V3 m ρ c main_call0_v9 : Vec Ideal S8192x4 .i32) (ix2 (flat b s) k)
      = (m ((c : Thread nD τ).loc main_arg4) : Vec Ideal S2048x4x4 .i32) (ix3 s b k) := by
  have h : (V3 m ρ c main_call0_v9 : Vec Ideal S8192x4 .i32)
      = shapeCast S8192x4 (transpose S4x2048x4 [1, 0, 2] (m ((c : Thread nD τ).loc main_arg4)) transposes_S2048x4x4_S4x2048x4_1_0_2)
          shapeCasts_S4x2048x4_S8192x4 := by
    refine (W3_of m ρ c main_call0_v9 (by decide)).trans ((W2_of m ρ c main_call0_v9 (by decide)).trans ?_)
    show StableHlo.after hostOps0 (W0 m ρ c) (Proc.devRef .tc main_call0_v9) = _
    after_results
    rfl
  exact (congrFun h _).trans (flattened _ _ _ b s k)

theorem pos (b : Fin 4) (s : Fin 2048) (k : Fin 3) :
    (V3 m ρ c main_call0_v12 : Vec Ideal S8192x3 .f32) (ix2 (flat b s) k)
      = (V2 m ρ c main_call0_v10 : Vec Ideal S2048x4x3 .f32) (ix3 s b k) := by
  have h : (V3 m ρ c main_call0_v12 : Vec Ideal S8192x3 .f32)
      = shapeCast S8192x3 (transpose S4x2048x3 [1, 0, 2] (V2 m ρ c main_call0_v10 : Vec Ideal S2048x4x3 .f32) transposes_S2048x4x3_S4x2048x3_1_0_2)
          shapeCasts_S4x2048x3_S8192x3 := by
    show StableHlo.after hostOps1 (W2 m ρ c) (Proc.devRef .tc main_call0_v12) = _
    after_results
    rfl
  exact (congrFun h _).trans (flattened _ _ _ b s k)

theorem cut_pn (b : Fin 4) (s : Fin 2048) (k : Fin 128) :
    (V5 m ρ c main_call0_v14 : Vec Ideal S4x2048x128 .f32) (ix3 b s k)
      = (V4 m ρ c main_call0_v13_4 : Vec Ideal S8192x128 .f32) (ix2 (flat b s) k) := by
  have h : (V5 m ρ c main_call0_v14 : Vec Ideal S4x2048x128 .f32)
      = shapeCast S4x2048x128 (V4 m ρ c main_call0_v13_4 : Vec Ideal S8192x128 .f32) shapeCasts_S8192x128_S4x2048x128 := by
    show StableHlo.after hostOps2 (W4 m ρ c) (Proc.devRef .tc main_call0_v14) = _
    after_results
    rfl
  exact (congrFun h _).trans (cut _ _ b s k)

theorem cut_e (b : Fin 4) (s : Fin 2048) (k : Fin 256) :
    (V5 m ρ c main_call0_v15 : Vec Ideal S4x2048x256 .f32) (ix3 b s k)
      = (V4 m ρ c main_call0_v13_0 : Vec Ideal S8192x256 .f32) (ix2 (flat b s) k) := by
  have h : (V5 m ρ c main_call0_v15 : Vec Ideal S4x2048x256 .f32)
      = shapeCast S4x2048x256 (V4 m ρ c main_call0_v13_0 : Vec Ideal S8192x256 .f32) shapeCasts_S8192x256_S4x2048x256 := by
    show StableHlo.after hostOps2 (W4 m ρ c) (Proc.devRef .tc main_call0_v15) = _
    after_results
    rfl
  exact (congrFun h _).trans (cut _ _ b s k)

theorem cut_q (b : Fin 4) (s : Fin 2048) (k : Fin 256) :
    (V5 m ρ c main_call0_v16 : Vec Ideal S4x2048x256 .f32) (ix3 b s k)
      = (V4 m ρ c main_call0_v13_1 : Vec Ideal S8192x256 .f32) (ix2 (flat b s) k) := by
  have h : (V5 m ρ c main_call0_v16 : Vec Ideal S4x2048x256 .f32)
      = shapeCast S4x2048x256 (V4 m ρ c main_call0_v13_1 : Vec Ideal S8192x256 .f32) shapeCasts_S8192x256_S4x2048x256 := by
    show StableHlo.after hostOps2 (W4 m ρ c) (Proc.devRef .tc main_call0_v16) = _
    after_results
    rfl
  exact (congrFun h _).trans (cut _ _ b s k)

theorem cut_k (b : Fin 4) (s : Fin 2048) (k : Fin 256) :
    (V5 m ρ c main_call0_v17 : Vec Ideal S4x2048x256 .f32) (ix3 b s k)
      = (V4 m ρ c main_call0_v13_2 : Vec Ideal S8192x256 .f32) (ix2 (flat b s) k) := by
  have h : (V5 m ρ c main_call0_v17 : Vec Ideal S4x2048x256 .f32)
      = shapeCast S4x2048x256 (V4 m ρ c main_call0_v13_2 : Vec Ideal S8192x256 .f32) shapeCasts_S8192x256_S4x2048x256 := by
    show StableHlo.after hostOps2 (W4 m ρ c) (Proc.devRef .tc main_call0_v17) = _
    after_results
    rfl
  exact (congrFun h _).trans (cut _ _ b s k)

theorem cut_v (b : Fin 4) (s : Fin 2048) (k : Fin 256) :
    (V5 m ρ c main_call0_v18 : Vec Ideal S4x2048x256 .f32) (ix3 b s k)
      = (V4 m ρ c main_call0_v13_3 : Vec Ideal S8192x256 .f32) (ix2 (flat b s) k) := by
  have h : (V5 m ρ c main_call0_v18 : Vec Ideal S4x2048x256 .f32)
      = shapeCast S4x2048x256 (V4 m ρ c main_call0_v13_3 : Vec Ideal S8192x256 .f32) shapeCasts_S8192x256_S4x2048x256 := by
    show StableHlo.after hostOps2 (W4 m ρ c) (Proc.devRef .tc main_call0_v18) = _
    after_results
    rfl
  exact (congrFun h _).trans (cut _ _ b s k)

end Cert.Proof.Host
-- ==== Proof.Arrays0.lean ====
/- What the normalising region leaves in its result array. -/
module

public import proofs.«01_k».proof.Proof.Norm
public import Idealize.ShloMosaic.Lib.Pipeline.ValueKit
public import Idealize.ShloMosaic.Lib.Decide

@[expose] public section

noncomputable section

namespace Cert.Proof.Arrays0

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD)

theorem index_in : ∀ t : Fin cfg0.N, win0_0.index t = ![0, 0, 0] := by decide +kernel

theorem index_out : ∀ t : Fin cfg0.N, win0_1.index t = ![0, 0, 0] := by decide +kernel

theorem block (t : Fin cfg0.N) : (iblk0 (V1 m ρ) c 0 t : Vec Ideal S2048x4x3 .f32) = m ((c : Thread nD τ).loc main_arg5) := by
  have h : (V1 m ρ c main_arg5 : Vec Ideal S2048x4x3 .f32) = m ((c : Thread nD τ).loc main_arg5) := W1_args m ρ c main_arg5 (by decide)
  rw [← h]
  funext y
  blk_ext [iblk0, index_in]

theorem norm_array (s : Fin 2048) (b : Fin 4) (k : Fin 3) :
    (V2 m ρ c main_call0_v10 : Vec Ideal S2048x4x3 .f32) (ix3 s b k)
      = Cert.ReferenceIdeal.Read.val_main_v15 (F := Ideal) (m ((c : Thread nD τ).loc main_arg5)) (ix3 s b k) := by
  have h : (V2 m ρ c main_call0_v10 : Vec Ideal S2048x4x3 .f32) = out0_1 (m ((c : Thread nD τ).loc main_arg5)) := by
    refine (W2_arr m ρ c 1).trans ((dat0 (V1 m ρ) c).arrAt_eq_of_covers 1 _ (by decide +kernel) fun t hf y => ?_)
    blk_simp
    rw [after0_1, block]
    refine congrArg _ ?_
    blk_ext [index_out]
  exact (congrFun h _).trans (Norm.out_apply _ s b k)

end Cert.Proof.Arrays0
-- ==== Proof.Arrays1.lean ====
/- What the embedding region leaves in its five result arrays: the reference's embeddings, their projections and the position
   features, one row per (batch, row) pair. -/
module

public import proofs.«01_k».proof.Proof.EmbedOut
public import proofs.«01_k».proof.Proof.Host
public import proofs.«01_k».proof.Proof.Arrays0

@[expose] public section

noncomputable section

namespace Cert.Proof.Arrays1

open Idealize.ShloMosaic Idealize.ShloMosaic.TcCoe Idealize.SL.Sem Cert.KernelIdeal Cert.KernelIdeal.Gen
open Cert.Proof.Host Cert.Proof.RefAttn

variable (m : (ℓ : Loc nD τ sig) → Buf (Elt Ideal) ℓ) (ρ : Dev nD → PrngReg) (c : Dev nD)

/-! ## Where each block lies -/

theorem rows_index : ∀ t : Fin cfg1.N, win1_0.index t = ![t.val, 0] ∧ win1_1.index t = ![t.val, 0] ∧ win1_2.index t = ![t.val, 0]
    ∧ win1_3.index t = ![t.val, 0] ∧ win1_4.index t = ![t.val, 0] ∧ win1_5.index t = ![t.val, 0] := by decide +kernel

theorem out_index : ∀ t : Fin cfg1.N, win1_17.index t = ![t.val, 0] ∧ win1_18.index t = ![t.val, 0] ∧ win1_19.index t = ![t.val, 0]
    ∧ win1_20.index t = ![t.val, 0] ∧ win1_21.index t = ![t.val, 0] := by decide +kernel

theorem index_6 : ∀ t : Fin cfg1.N, win1_6.index t = ![0, 0] := by decide +kernel

theorem table_6 (t : Fin cfg1.N) : (iblk1 (V3 m ρ) c 6 t : Vec Ideal S256x28 .f32) = m ((c : Thread nD τ).loc main_arg6) := by
  have h : (V3 m ρ c main_arg6 : Vec Ideal S256x28 .f32) = m ((c : Thread nD τ).loc main_arg6) := W3_args m ρ c main_arg6 (by decide)
  rw [← h]
  funext y
  blk_ext [iblk1, index_6]

theorem index_7 : ∀ t : Fin cfg1.N, win1_7.index t = ![0, 0] := by decide +kernel

theorem table_7 (t : Fin cfg1.N) : (iblk1 (V3 m ρ) c 7 t : Vec Ideal S16x2 .f32) = m ((c : Thread nD τ).loc main_arg7) := by
  have h : (V3 m ρ c main_arg7 : Vec Ideal S16x2 .f32) = m ((c : Thread nD τ).loc main_arg7) := W3_args m ρ c main_arg7 (by decide)
  rw [← h]
  funext y
  blk_ext [iblk1, index_7]

theorem index_8 : ∀ t : Fin cfg1.N, win1_8.index t = ![0, 0] := by decide +kernel

theorem table_8 (t : Fin cfg1.N) : (iblk1 (V3 m ρ) c 8 t : Vec Ideal S8x2 .f32) = m ((c : Thread nD τ).loc main_arg8) := by
  have h : (V3 m ρ c main_arg8 : Vec Ideal S8x2 .f32) = m ((c : Thread nD τ).loc main_arg8) := W3_args m ρ c main_arg8 (by decide)
  rw [← h]
  funext y
  blk_ext [iblk1, index_8]

theorem index_9 : ∀ t : Fin cfg1.N, win1_9.index t = ![0, 0] := by decide +kernel

theorem table_9 (t : Fin cfg1.N) : (iblk1 (V3 m ρ) c 9 t : Vec Ideal S32x16 .f32) = m ((c : Thread nD τ).loc main_arg9) := by
  have h : (V3 m ρ c main_arg9 : Vec Ideal S32x16 .f32) = m ((c : Thread nD τ).loc main_arg9) := W3_args m ρ c main_arg9 (by decide)
  rw [← h]
  funext y
  blk_ext [iblk1, index_9]

theorem index_10 : ∀ t : Fin cfg1.N, win1_10.index t = ![0, 0] := by decide +kernel

theorem table_10 (t : Fin cfg1.N) : (iblk1 (V3 m ρ) c 10 t : Vec Ideal S2250x16 .f32) = m ((c : Thread nD τ).loc main_arg10) := by
  have h : (V3 m ρ c main_arg10 : Vec Ideal S2250x16 .f32) = m ((c : Thread nD τ).loc main_arg10) := W3_args m ρ c main_arg10 (by decide)
  rw [← h]
  funext y
  blk_ext [iblk1, index_10]

theorem index_11 : ∀ t : Fin cfg1.N, win1_11.index t = ![0, 0] := by decide +kernel

theorem table_11 (t : Fin cfg1.N) : (iblk1 (V3 m ρ) c 11 t : Vec Ideal S3x128 .f32) = m ((c : Thread nD τ).loc main_arg11) := by
  have h : (V3 m ρ c main_arg11 : Vec Ideal S3x128 .f32) = m ((c : Thread nD τ).loc main_arg11) := W3_args m ρ c main_arg11 (by decide)
  rw [← h]
  funext y
  blk_ext [iblk1, index_11]

theorem index_12 : ∀ t : Fin cfg1.N, win1_12.index t = ![0, 0] := by decide +kernel

theorem table_12 (t : Fin cfg1.N) : (iblk1 (V3 m ρ) c 12 t : Vec Ideal S384x256 .f32) = m ((c : Thread nD τ).loc main_arg12) := by
  have h : (V3 m ρ c main_arg12 : Vec Ideal S384x256 .f32) = m ((c : Thread nD τ).loc main_arg12) := W3_args m ρ c main_arg12 (by decide)
  rw [← h]
  funext y
  blk_ext [iblk1, index_12]

theorem index_13 : ∀ t : Fin cfg1.N, win1_13.index t = ![0] := by decide +kernel

theorem table_13 (t : Fin cfg1.N) : (iblk1 (V3 m ρ) c 13 t : Vec Ideal S256 .f32) = m ((c : Thread nD τ).loc main_arg13) := by
  have h : (V3 m ρ c main_arg13 : Vec Ideal S256 .f32) = m ((c : Thread nD τ).loc main_arg13) := W3_args m ρ c main_arg13 (by decide)
  rw [← h]
  funext y
  blk_ext [iblk1, index_13]

theorem index_14 : ∀ t : Fin cfg1.N, win1_14.index t = ![0, 0] := by decide +kernel

theorem table_14 (t : Fin cfg1.N) : (iblk1 (V3 m ρ) c 14 t : Vec Ideal S256x256 .f32) = m ((c : Thread nD τ).loc main_arg14) := by
  have h : (V3 m ρ c main_arg14 : Vec Ideal S256x256 .f32) = m ((c : Thread nD τ).loc main_arg14) := W3_args m ρ c main_arg14 (by decide)
  rw [← h]
  funext y
  blk_ext [iblk1, index_14]

theorem index_15 : ∀ t : Fin cfg1.N, win1_15.index t = ![0, 0] := by decide +kernel

theorem table_15 (t : Fin cfg1.N) : (iblk1 (V3 m ρ) c 15 t : Vec Ideal S256x256 .f32) = m ((c : Thread nD τ).loc main_arg15) := by
  have h : (V3 m ρ c main_arg15 : Vec Ideal S256x256 .f32) = m ((c : Thread nD τ).loc main_arg15) := W3_args m ρ c main_arg15 (by decide)
  rw [← h]
  funext y
  blk_ext [iblk1, index_15]

theorem index_16 : ∀ t : Fin cfg1.N, win1_16.index t = ![0, 0] := by decide +kernel

theorem table_16 (t : Fin cfg1.N) : (iblk1 (V3 m ρ) c 16 t : Vec Ideal S256x256 .f32) = m ((c : Thread nD τ).loc main_arg16) := by
  have h : (V3 m ρ c main_arg16 : Vec Ideal S256x256 .f32) = m ((c : Thread nD τ).loc main_arg16) := W3_args m ρ c main_arg16 (by decide)
  rw [← h]
  funext y
  blk_ext [iblk1, index_16]

/-! ## The rows of a block -/

/-- The flat row that row `r` of block `t` is. -/
def place (t : Fin cfg1.N) (r : Fin 256) : Fin 8192 :=
  ⟨t.val * 256 + r.val, by have := t.isLt; have : cfg1.N = 32 := rfl; omega⟩

/-- The batch of a flat row. -/
def batch (n : Fin 8192) : Fin 4 := ⟨n.val / 2048, by omega⟩

/-- The row in its batch of a flat row. -/
def inBatch (n : Fin 8192) : Fin 2048 := ⟨n.val % 2048, by omega⟩

theorem flat_batch (n : Fin 8192) : flat (batch n) (inBatch n) = n :=
  Fin.ext (by show n.val / 2048 * 2048 + n.val % 2048 = n.val; omega)

theorem batch_flat (b : Fin 4) (s : Fin 2048) : batch (flat b s) = b :=
  Fin.ext (by show (b.val * 2048 + s.val) / 2048 = b.val; omega)

theorem inBatch_flat (b : Fin 4) (s : Fin 2048) : inBatch (flat b s) = s :=
  Fin.ext (by show (b.val * 2048 + s.val) % 2048 = s.val; omega)

theorem block_0 (t : Fin cfg1.N) (r : Fin 256) (k : Fin 4) :
    (iblk1 (V3 m ρ) c 0 t : Vec Ideal S256x4 .i32) (ix2 r k) = (V3 m ρ c main_call0_v1 : Vec Ideal S8192x4 .i32) (ix2 (place t r) k) := by
  blk_ext [iblk1, place, (rows_index t).1]

theorem block_1 (t : Fin cfg1.N) (r : Fin 256) (k : Fin 4) :
    (iblk1 (V3 m ρ) c 1 t : Vec Ideal S256x4 .i32) (ix2 r k) = (V3 m ρ c main_call0_v3 : Vec Ideal S8192x4 .i32) (ix2 (place t r) k) := by
  blk_ext [iblk1, place, (rows_index t).2.1]

theorem block_2 (t : Fin cfg1.N) (r : Fin 256) (k : Fin 4) :
    (iblk1 (V3 m ρ) c 2 t : Vec Ideal S256x4 .i32) (ix2 r k) = (V3 m ρ c main_call0_v5 : Vec Ideal S8192x4 .i32) (ix2 (place t r) k) := by
  blk_ext [iblk1, place, (rows_index t).2.2.1]

theorem block_3 (t : Fin cfg1.N) (r : Fin 256) (k : Fin 4) :
    (iblk1 (V3 m ρ) c 3 t : Vec Ideal S256x4 .i32) (ix2 r k) = (V3 m ρ c main_call0_v7 : Vec Ideal S8192x4 .i32) (ix2 (place t r) k) := by
  blk_ext [iblk1, place, (rows_index t).2.2.2.1]

theorem block_4 (t : Fin cfg1.N) (r : Fin 256) (k : Fin 4) :
    (iblk1 (V3 m ρ) c 4 t : Vec Ideal S256x4 .i32) (ix2 r k) = (V3 m ρ c main_call0_v9 : Vec Ideal S8192x4 .i32) (ix2 (place t r) k) := by
  blk_ext [iblk1, place, (rows_index t).2.2.2.2.1]

theorem block_5 (t : Fin cfg1.N) (r : Fin 256) (k : Fin 3) :
    (iblk1 (V3 m ρ) c 5 t : Vec Ideal S256x3 .f32) (ix2 r k) = (V3 m ρ c main_call0_v12 : Vec Ideal S8192x3 .f32) (ix2 (place t r) k) := by
  blk_ext [iblk1, place, (rows_index t).2.2.2.2.2]

theorem row (t : Fin cfg1.N) (r : Fin 256) :
    Embed.Row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (iblk1 (V3 m ρ) c 0 t) (iblk1 (V3 m ρ) c 1 t) (iblk1 (V3 m ρ) c 2 t) (iblk1 (V3 m ρ) c 3 t) (iblk1 (V3 m ρ) c 4 t)
      (iblk1 (V3 m ρ) c 5 t) r (inBatch (place t r)) (batch (place t r)) := by
  have hp := flat_batch (place t r)
  exact
    { idx0 := fun k => (block_0 m ρ c t r k).trans ((congrArg (fun n => (V3 m ρ c main_call0_v1 : Vec Ideal S8192x4 .i32) (ix2 n k)) hp.symm).trans (rows0 m ρ c _ _ k))
      idx1 := fun k => (block_1 m ρ c t r k).trans ((congrArg (fun n => (V3 m ρ c main_call0_v3 : Vec Ideal S8192x4 .i32) (ix2 n k)) hp.symm).trans (rows1 m ρ c _ _ k))
      idx2 := fun k => (block_2 m ρ c t r k).trans ((congrArg (fun n => (V3 m ρ c main_call0_v5 : Vec Ideal S8192x4 .i32) (ix2 n k)) hp.symm).trans (rows2 m ρ c _ _ k))
      idx3 := fun k => (block_3 m ρ c t r k).trans ((congrArg (fun n => (V3 m ρ c main_call0_v7 : Vec Ideal S8192x4 .i32) (ix2 n k)) hp.symm).trans (rows3 m ρ c _ _ k))
      idx4 := fun k => (block_4 m ρ c t r k).trans ((congrArg (fun n => (V3 m ρ c main_call0_v9 : Vec Ideal S8192x4 .i32) (ix2 n k)) hp.symm).trans (rows4 m ρ c _ _ k))
      pos := fun k => (block_5 m ρ c t r k).trans ((congrArg (fun n => (V3 m ρ c main_call0_v12 : Vec Ideal S8192x3 .f32) (ix2 n k)) hp.symm).trans
        ((Host.pos m ρ c _ _ k).trans (Arrays0.norm_array m ρ c _ _ k))) }

/-! ## The arrays -/

/-- Result `e` at flat row `n`. -/
def eAt (n : Fin 8192) (f : Fin 256) : EReal := embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (batch n) (inBatch n) f

theorem e_array (hin : Embed.InRange (m ((c : Thread nD τ).loc main_arg0)) (m ((c : Thread nD τ).loc main_arg1)) (m ((c : Thread nD τ).loc main_arg2)) (m ((c : Thread nD τ).loc main_arg3)) (m ((c : Thread nD τ).loc main_arg4))) (b : Fin 4) (s : Fin 2048) (f : Fin 256) :
    (V4 m ρ c main_call0_v13_0 : Vec Ideal S8192x256 .f32) (ix2 (flat b s) f) = embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b s f := by
  have h : (V4 m ρ c main_call0_v13_0 : Vec Ideal S8192x256 .f32) = fun i => eAt m c (i 0) (i 1) := by
    refine (W4_arr m ρ c 17).trans ((dat1 (V3 m ρ) c).arrAt_eq_of_covers 17 _ (by decide +kernel) fun t hf y => ?_)
    blk_simp
    rw [after1_17, table_6, table_7, table_8, table_9, table_10, table_11, table_12, table_13, table_14, table_15, table_16]
    obtain ⟨r, f, rfl⟩ : ∃ (r : Fin 256) (f : Fin 256), y = ix2 r f := ⟨y 0, y 1, by funext a; match a with | ⟨0, _⟩ => rfl | ⟨1, _⟩ => rfl⟩
    refine (EmbedOut.e_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _ _ _ _ _ _ _ _ _ _ _ _ _ _ r (inBatch (place t r)) (batch (place t r)) hin (row m ρ c t r) f).trans ?_
    show eAt m c (place t r) f = _
    refine congrArg₂ (eAt m c) ?_ ?_
    · exact Fin.ext (by blk_simp [place, (out_index t).1])
    · exact Fin.ext (by blk_simp [(out_index t).1])
  refine (congrFun h _).trans ?_
  show eAt m c (flat b s) f = _
  unfold eAt
  rw [batch_flat, inBatch_flat]

/-- Result `q` at flat row `n`. -/
def qAt (n : Fin 8192) (f : Fin 256) : EReal := proj (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (batch n) (inBatch n)) (m ((c : Thread nD τ).loc main_arg14)) f

theorem q_array (hin : Embed.InRange (m ((c : Thread nD τ).loc main_arg0)) (m ((c : Thread nD τ).loc main_arg1)) (m ((c : Thread nD τ).loc main_arg2)) (m ((c : Thread nD τ).loc main_arg3)) (m ((c : Thread nD τ).loc main_arg4))) (b : Fin 4) (s : Fin 2048) (f : Fin 256) :
    (V4 m ρ c main_call0_v13_1 : Vec Ideal S8192x256 .f32) (ix2 (flat b s) f) = proj (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b s) (m ((c : Thread nD τ).loc main_arg14)) f := by
  have h : (V4 m ρ c main_call0_v13_1 : Vec Ideal S8192x256 .f32) = fun i => qAt m c (i 0) (i 1) := by
    refine (W4_arr m ρ c 18).trans ((dat1 (V3 m ρ) c).arrAt_eq_of_covers 18 _ (by decide +kernel) fun t hf y => ?_)
    blk_simp
    rw [after1_18, table_6, table_7, table_8, table_9, table_10, table_11, table_12, table_13, table_14, table_15, table_16]
    obtain ⟨r, f, rfl⟩ : ∃ (r : Fin 256) (f : Fin 256), y = ix2 r f := ⟨y 0, y 1, by funext a; match a with | ⟨0, _⟩ => rfl | ⟨1, _⟩ => rfl⟩
    refine (EmbedOut.q_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _ _ _ _ _ _ _ _ _ _ _ _ _ _ r (inBatch (place t r)) (batch (place t r)) hin (row m ρ c t r) f).trans ?_
    show qAt m c (place t r) f = _
    refine congrArg₂ (qAt m c) ?_ ?_
    · exact Fin.ext (by blk_simp [place, (out_index t).2.1])
    · exact Fin.ext (by blk_simp [(out_index t).2.1])
  refine (congrFun h _).trans ?_
  show qAt m c (flat b s) f = _
  unfold qAt
  rw [batch_flat, inBatch_flat]

/-- Result `k` at flat row `n`. -/
def kAt (n : Fin 8192) (f : Fin 256) : EReal := proj (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (batch n) (inBatch n)) (m ((c : Thread nD τ).loc main_arg15)) f

theorem k_array (hin : Embed.InRange (m ((c : Thread nD τ).loc main_arg0)) (m ((c : Thread nD τ).loc main_arg1)) (m ((c : Thread nD τ).loc main_arg2)) (m ((c : Thread nD τ).loc main_arg3)) (m ((c : Thread nD τ).loc main_arg4))) (b : Fin 4) (s : Fin 2048) (f : Fin 256) :
    (V4 m ρ c main_call0_v13_2 : Vec Ideal S8192x256 .f32) (ix2 (flat b s) f) = proj (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b s) (m ((c : Thread nD τ).loc main_arg15)) f := by
  have h : (V4 m ρ c main_call0_v13_2 : Vec Ideal S8192x256 .f32) = fun i => kAt m c (i 0) (i 1) := by
    refine (W4_arr m ρ c 19).trans ((dat1 (V3 m ρ) c).arrAt_eq_of_covers 19 _ (by decide +kernel) fun t hf y => ?_)
    blk_simp
    rw [after1_19, table_6, table_7, table_8, table_9, table_10, table_11, table_12, table_13, table_14, table_15, table_16]
    obtain ⟨r, f, rfl⟩ : ∃ (r : Fin 256) (f : Fin 256), y = ix2 r f := ⟨y 0, y 1, by funext a; match a with | ⟨0, _⟩ => rfl | ⟨1, _⟩ => rfl⟩
    refine (EmbedOut.k_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _ _ _ _ _ _ _ _ _ _ _ _ _ _ r (inBatch (place t r)) (batch (place t r)) hin (row m ρ c t r) f).trans ?_
    show kAt m c (place t r) f = _
    refine congrArg₂ (kAt m c) ?_ ?_
    · exact Fin.ext (by blk_simp [place, (out_index t).2.2.1])
    · exact Fin.ext (by blk_simp [(out_index t).2.2.1])
  refine (congrFun h _).trans ?_
  show kAt m c (flat b s) f = _
  unfold kAt
  rw [batch_flat, inBatch_flat]

/-- Result `v` at flat row `n`. -/
def vAt (n : Fin 8192) (f : Fin 256) : EReal := proj (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (batch n) (inBatch n)) (m ((c : Thread nD τ).loc main_arg16)) f

theorem v_array (hin : Embed.InRange (m ((c : Thread nD τ).loc main_arg0)) (m ((c : Thread nD τ).loc main_arg1)) (m ((c : Thread nD τ).loc main_arg2)) (m ((c : Thread nD τ).loc main_arg3)) (m ((c : Thread nD τ).loc main_arg4))) (b : Fin 4) (s : Fin 2048) (f : Fin 256) :
    (V4 m ρ c main_call0_v13_3 : Vec Ideal S8192x256 .f32) (ix2 (flat b s) f) = proj (embed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) b s) (m ((c : Thread nD τ).loc main_arg16)) f := by
  have h : (V4 m ρ c main_call0_v13_3 : Vec Ideal S8192x256 .f32) = fun i => vAt m c (i 0) (i 1) := by
    refine (W4_arr m ρ c 20).trans ((dat1 (V3 m ρ) c).arrAt_eq_of_covers 20 _ (by decide +kernel) fun t hf y => ?_)
    blk_simp
    rw [after1_20, table_6, table_7, table_8, table_9, table_10, table_11, table_12, table_13, table_14, table_15, table_16]
    obtain ⟨r, f, rfl⟩ : ∃ (r : Fin 256) (f : Fin 256), y = ix2 r f := ⟨y 0, y 1, by funext a; match a with | ⟨0, _⟩ => rfl | ⟨1, _⟩ => rfl⟩
    refine (EmbedOut.v_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _ _ _ _ _ _ _ _ _ _ _ _ _ _ r (inBatch (place t r)) (batch (place t r)) hin (row m ρ c t r) f).trans ?_
    show vAt m c (place t r) f = _
    refine congrArg₂ (vAt m c) ?_ ?_
    · exact Fin.ext (by blk_simp [place, (out_index t).2.2.2.1])
    · exact Fin.ext (by blk_simp [(out_index t).2.2.2.1])
  refine (congrFun h _).trans ?_
  show vAt m c (flat b s) f = _
  unfold vAt
  rw [batch_flat, inBatch_flat]

/-- Result `pn` at flat row `n`. -/
def pnAt (n : Fin 8192) (f : Fin 128) : EReal := Cert.ReferenceIdeal.Read.val_main_v16 (F := Ideal) (m ((c : Thread nD τ).loc main_arg5)) (m ((c : Thread nD τ).loc main_arg11)) (ix3 (inBatch n) (batch n) f)

theorem pn_array (b : Fin 4) (s : Fin 2048) (f : Fin 128) :
    (V4 m ρ c main_call0_v13_4 : Vec Ideal S8192x128 .f32) (ix2 (flat b s) f) = Cert.ReferenceIdeal.Read.val_main_v16 (F := Ideal) (m ((c : Thread nD τ).loc main_arg5)) (m ((c : Thread nD τ).loc main_arg11)) (ix3 s b f) := by
  have h : (V4 m ρ c main_call0_v13_4 : Vec Ideal S8192x128 .f32) = fun i => pnAt m c (i 0) (i 1) := by
    refine (W4_arr m ρ c 21).trans ((dat1 (V3 m ρ) c).arrAt_eq_of_covers 21 _ (by decide +kernel) fun t hf y => ?_)
    blk_simp
    rw [after1_21, table_6, table_7, table_8, table_9, table_10, table_11, table_12, table_13, table_14, table_15, table_16]
    obtain ⟨r, f, rfl⟩ : ∃ (r : Fin 256) (f : Fin 128), y = ix2 r f := ⟨y 0, y 1, by funext a; match a with | ⟨0, _⟩ => rfl | ⟨1, _⟩ => rfl⟩
    refine (EmbedOut.pn_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _ _ _ _ _ _ _ _ _ _ _ _ _ _ r (inBatch (place t r)) (batch (place t r)) (row m ρ c t r) f).trans ?_
    show pnAt m c (place t r) f = _
    refine congrArg₂ (pnAt m c) ?_ ?_
    · exact Fin.ext (by blk_simp [place, (out_index t).2.2.2.2])
    · exact Fin.ext (by blk_simp [(out_index t).2.2.2.2])
  refine (congrFun h _).trans ?_
  show pnAt m c (flat b s) f = _
  unfold pnAt
  rw [batch_flat, inBatch_flat]

end Cert.Proof.Arrays1
-- ==== Proof.Arrays2.lean ====
/- What the attention region leaves in the result array: the reference's result. -/
module

public import proofs.«01_k».proof.Proof.AttnOut
public import proofs.«01_k».proof.Proof.Arrays1

@[expose] public section

noncomputable section

namespace Cert.Proof.Arrays2

open Idealize.ShloMosaic Idealize.ShloMosaic.TcCoe Idealize.SL.Sem Cert.KernelIdeal Cert.KernelIdeal.Gen
open Cert.Proof.Host Cert.Proof.RefAttn Cert.Proof.Arrays1

variable (m : (ℓ : Loc nD τ sig) → Buf (Elt Ideal) ℓ) (ρ : Dev nD → PrngReg) (c : Dev nD)

/-! ## Where each block lies -/

theorem query_index : ∀ t : Fin cfg2.N, win2_0.index t = ![t.val / 8, t.val % 8, 0] ∧ win2_2.index t = ![t.val / 8, t.val % 8, 0]
    ∧ win2_5.index t = ![t.val / 8, t.val % 8, 0] ∧ win2_7.index t = ![t.val / 8, t.val % 8, 0] := by decide +kernel

theorem key_index : ∀ t : Fin cfg2.N, win2_1.index t = ![t.val / 8, 0, 0] ∧ win2_3.index t = ![t.val / 8, 0, 0]
    ∧ win2_4.index t = ![t.val / 8, 0, 0] := by decide +kernel

theorem index_6 : ∀ t : Fin cfg2.N, win2_6.index t = ![0, 0] := by decide +kernel

/-- The batch of point `t`. -/
def batchOf (t : Fin cfg2.N) : Fin 4 := ⟨t.val / 8, by have := t.isLt; have : cfg2.N = 32 := rfl; omega⟩

/-- The query that row `r` of block `t` is. -/
def query (t : Fin cfg2.N) (r : Fin 256) : Fin 2048 := ⟨t.val % 8 * 256 + r.val, by omega⟩

theorem table_6 (t : Fin cfg2.N) : (iblk2 (V5 m ρ) c 6 t : Vec Ideal S256x256 .f32) = m ((c : Thread nD τ).loc main_arg17) := by
  have h : (V5 m ρ c main_arg17 : Vec Ideal S256x256 .f32) = m ((c : Thread nD τ).loc main_arg17) := W5_args m ρ c main_arg17 (by decide)
  rw [← h]
  funext y
  blk_ext [iblk2, index_6]

theorem block_0 (t : Fin cfg2.N) (r : Fin 256) (k : Fin 128) :
    (iblk2 (V5 m ρ) c 0 t : Vec Ideal S1x256x128 .f32) (ix3 0 r k)
      = (V5 m ρ c main_call0_v14 : Vec Ideal S4x2048x128 .f32) (ix3 (batchOf t) (query t r) k) := by
  blk_ext [iblk2, batchOf, query, (query_index t).1]

theorem block_2 (t : Fin cfg2.N) (r : Fin 256) (k : Fin 256) :
    (iblk2 (V5 m ρ) c 2 t : Vec Ideal S1x256x256 .f32) (ix3 0 r k)
      = (V5 m ρ c main_call0_v16 : Vec Ideal S4x2048x256 .f32) (ix3 (batchOf t) (query t r) k) := by
  blk_ext [iblk2, batchOf, query, (query_index t).2.1]

theorem block_5 (t : Fin cfg2.N) (r : Fin 256) (k : Fin 256) :
    (iblk2 (V5 m ρ) c 5 t : Vec Ideal S1x256x256 .f32) (ix3 0 r k)
      = (V5 m ρ c main_call0_v15 : Vec Ideal S4x2048x256 .f32) (ix3 (batchOf t) (query t r) k) := by
  blk_ext [iblk2, batchOf, query, (query_index t).2.2.1]

theorem block_1 (t : Fin cfg2.N) (j : Fin 2048) (k : Fin 128) :
    (iblk2 (V5 m ρ) c 1 t : Vec Ideal S1x2048x128 .f32) (ix3 0 j k)
      = (V5 m ρ c main_call0_v14 : Vec Ideal S4x2048x128 .f32) (ix3 (batchOf t) j k) := by
  blk_ext [iblk2, batchOf, (key_index t).1]

theorem block_3 (t : Fin cfg2.N) (j : Fin 2048) (k : Fin 256) :
    (iblk2 (V5 m ρ) c 3 t : Vec Ideal S1x2048x256 .f32) (ix3 0 j k)
      = (V5 m ρ c main_call0_v17 : Vec Ideal S4x2048x256 .f32) (ix3 (batchOf t) j k) := by
  blk_ext [iblk2, batchOf, (key_index t).2.1]

theorem block_4 (t : Fin cfg2.N) (j : Fin 2048) (k : Fin 256) :
    (iblk2 (V5 m ρ) c 4 t : Vec Ideal S1x2048x256 .f32) (ix3 0 j k)
      = (V5 m ρ c main_call0_v18 : Vec Ideal S4x2048x256 .f32) (ix3 (batchOf t) j k) := by
  blk_ext [iblk2, batchOf, (key_index t).2.2]

section

variable (hpre : Pre.Holds (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
include hpre

theorem inRange : Embed.InRange (m ((c : Thread nD τ).loc main_arg0)) (m ((c : Thread nD τ).loc main_arg1)) (m ((c : Thread nD τ).loc main_arg2)) (m ((c : Thread nD τ).loc main_arg3)) (m ((c : Thread nD τ).loc main_arg4)) :=
  ⟨hpre.rows0, hpre.rows1, hpre.rows2, hpre.rows3, hpre.rows4⟩

theorem row (t : Fin cfg2.N) (r : Fin 256) :
    AttnOut.Row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
      (iblk2 (V5 m ρ) c 0 t) (iblk2 (V5 m ρ) c 1 t) (iblk2 (V5 m ρ) c 2 t) (iblk2 (V5 m ρ) c 3 t) (iblk2 (V5 m ρ) c 4 t)
      (iblk2 (V5 m ρ) c 5 t) r (query t r) (batchOf t) :=
  have hin := inRange m c hpre
  { pos := fun k => (block_0 m ρ c t r k).trans ((cut_pn m ρ c _ _ k).trans (pn_array m ρ c _ _ k))
    keyPos := fun j k => (block_1 m ρ c t j k).trans ((cut_pn m ρ c _ _ k).trans (pn_array m ρ c _ _ k))
    query := fun k => (block_2 m ρ c t r k).trans ((cut_q m ρ c _ _ k).trans (q_array m ρ c hin _ _ k))
    key := fun j k => (block_3 m ρ c t j k).trans ((cut_k m ρ c _ _ k).trans (k_array m ρ c hin _ _ k))
    value := fun j k => (block_4 m ρ c t j k).trans ((cut_v m ρ c _ _ k).trans (v_array m ρ c hin _ _ k))
    own := fun k => (block_5 m ρ c t r k).trans ((cut_e m ρ c _ _ k).trans (e_array m ρ c hin _ _ k)) }

/-- The result array, whole. -/
theorem result_array :
    (V6 m ρ c main_v0 : Vec Ideal S4x2048x256 .f32)
      = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (W6_arr m ρ c 7).trans ((dat2 (V5 m ρ) c).arrAt_eq_of_covers 7 _ (by decide +kernel) fun t hf y => ?_)
  blk_simp
  rw [after2_7, table_6]
  obtain ⟨r, f, rfl⟩ : ∃ (r f : Fin 256), y = ix3 0 r f :=
    ⟨y 1, y 2, by
      funext a
      match a with
      | ⟨0, _⟩ => exact Subsingleton.elim (α := Fin 1) _ _
      | ⟨1, _⟩ => rfl
      | ⟨2, _⟩ => rfl⟩
  refine (AttnOut.out_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) hpre _ _ _ _ _ _ r (query t r) (batchOf t) (row m ρ c hpre t r) f).trans ?_
  generalize Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) = G
  refine congrArg G ?_
  blk_ext [batchOf, query, (query_index t).2.2.2]

end

end Cert.Proof.Arrays2
-- ==== Proof.Run.lean ====
/- The kernel program's run: what every array of @main holds when it has ended. -/
module

public import proofs.«01_k».proof.Proof.Gen.KernelIdeal.Frame
public import Idealize.ShloMosaic.PureOps.Ideal

@[expose] public section

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

set_option backward.isDefEq.respectTransparency.types false in
/-- Every execution ends, with each array of @main at the last boundary's contents. -/
theorem contents : θ_run defs (onTc (τ := τ) (main (F := Ideal))) ⟨m, fun _ => 0, ρ⟩
    (fun r => ∀ c : Dev nD, ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Cert.Proof.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Pre
public import proofs.«01_k».proof.Proof.Arrays2
public import proofs.«01_k».proof.Proof.Run
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and, having no semaphore, every counter at zero. -/
theorem reference_frame : Cert.quiescent_ReferenceIdeal := fun m g _ =>
  (θ_run _ _ _).mono (fun r h => ⟨fun c => (h c).2, sem_eq_zero_of_no_sems (by decide) r.2⟩) (Cert.ReferenceIdeal.Value.run m g)

section Value

open Cert.KernelIdeal Cert.KernelIdeal.Gen

/-- The common result on device `c`: the reference's result as a function of the arguments. -/
def result (m : (ℓ : Loc nD τ sig) → Buf (Elt Ideal) ℓ) (c : Dev nD) : Vec Ideal S4x2048x256 .f32 :=
  Cert.ReferenceIdeal.Read.val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))

/-- The kernel and the reference end with the same result. -/
theorem value : Cert.algebraic_KernelIdeal_ReferenceIdeal_pre_finite_distinct := by
  intro m g m' g' hpre hagree
  refine ⟨result m, (θ_run _ _ _).mono (fun r h c => ?_) (Run.contents m g),
    (θ_run _ _ _).mono (fun r h c => ⟨(h c).1.trans ?_, (h c).2⟩) (Cert.ReferenceIdeal.Value.run m' g')⟩
  · exact ⟨(h c _ (mem_uc main_v0 (by decide))).trans (Arrays2.result_array m g c (Pre.holds _ _ _ _ _ _ _ _ _ _ _ _ _ _ _ _ _ _ (hpre c))),
     (h c _ (mem_uc main_arg0 (by decide))).trans (W6_main_arg0 m g c),
     (h c _ (mem_uc main_arg1 (by decide))).trans (W6_main_arg1 m g c),
     (h c _ (mem_uc main_arg2 (by decide))).trans (W6_main_arg2 m g c),
     (h c _ (mem_uc main_arg3 (by decide))).trans (W6_main_arg3 m g c),
     (h c _ (mem_uc main_arg4 (by decide))).trans (W6_main_arg4 m g c),
     (h c _ (mem_uc main_arg5 (by decide))).trans (W6_main_arg5 m g c),
     (h c _ (mem_uc main_arg6 (by decide))).trans (W6_main_arg6 m g c),
     (h c _ (mem_uc main_arg7 (by decide))).trans (W6_main_arg7 m g c),
     (h c _ (mem_uc main_arg8 (by decide))).trans (W6_main_arg8 m g c),
     (h c _ (mem_uc main_arg9 (by decide))).trans (W6_main_arg9 m g c),
     (h c _ (mem_uc main_arg10 (by decide))).trans (W6_main_arg10 m g c),
     (h c _ (mem_uc main_arg11 (by decide))).trans (W6_main_arg11 m g c),
     (h c _ (mem_uc main_arg12 (by decide))).trans (W6_main_arg12 m g c),
     (h c _ (mem_uc main_arg13 (by decide))).trans (W6_main_arg13 m g c),
     (h c _ (mem_uc main_arg14 (by decide))).trans (W6_main_arg14 m g c),
     (h c _ (mem_uc main_arg15 (by decide))).trans (W6_main_arg15 m g c),
     (h c _ (mem_uc main_arg16 (by decide))).trans (W6_main_arg16 m g c),
     (h c _ (mem_uc main_arg17 (by decide))).trans (W6_main_arg17 m g c)⟩
  · refine (Cert.ReferenceIdeal.Read.val_main_v67_eq (StableHlo.launchContents m' c)).trans ?_
    obtain ⟨h0, h1, h2, h3, h4, h5, h6, h7, h8, h9, h10, h11, h12, h13, h14, h15, h16, h17⟩ := hagree c
    unfold result
    rw [← h0, ← h1, ← h2, ← h3, ← h4, ← h5, ← h6, ← h7, ← h8, ← h9, ← h10, ← h11, ← h12, ← h13, ← h14, ← h15, ← h16, ← h17]

end Value

/-- Every claim of the certificate. -/
theorem claim : Cert.Claim :=
  ⟨Cert.Kernel.Gen.facts, Cert.KernelIdeal.Gen.facts, Cert.ReferenceIdeal.Gen.facts, Cert.Proof.Pre.facts,
    fun m g _ => Cert.Kernel.Gen.frame m g, fun m g _ => Cert.KernelIdeal.Gen.frame m g, fun m g _ => Cert.KernelIdeal.Gen.frame m g,
    reference_frame, fun m g _ => reference_frame m g trivial, trivial, value⟩

end Cert.Proof

end
